-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x96 : Shape := ⟨2, ![64, 96]⟩
abbrev S8x16x12 : Shape := ⟨3, ![8, 16, 12]⟩
abbrev S4194304x4 : Shape := ⟨2, ![4194304, 4]⟩
abbrev S_ : Shape := ⟨0, ![]⟩

class Facts : Prop where
  bitsLt_bf16_f32 : FTy.bits .bf16 < FTy.bits .f32
  bcast_S_S64x96 : S_.BroadcastsInDim S64x96 (![] : Fin 0 → Fin S64x96.rank)
  bcast_S_S8x16x12 : S_.BroadcastsInDim S8x16x12 (![] : Fin 0 → Fin S8x16x12.rank)

variable [Facts]

def fn {F : FTy → Type} [FloatOps F] (main_arg0 : FVec F S64x96 .bf16) (main_arg1 : FVec F S8x16x12 .f32) (main_arg2 : IVec S4194304x4 8) : IVec S64x96 1 × IVec S8x16x12 1 :=
  let main_v0 : FVec F S64x96 .f32 := (extf .f32 · bitsLt_bf16_f32) main_arg0
  let main_v1 : FVec F S64x96 .f32 := Host.absf main_v0
  let main_cst : FVec F S_ .f32 := constant S_ .f32 0x7F800000#32
  let main_v2 : FVec F S64x96 .f32 := broadcastInDim S64x96 ![] bcast_S_S64x96 main_cst
  let main_v3 : IVec S64x96 1 := cmpf .olt main_v1 main_v2
  let main_v4 : FVec F S8x16x12 .f32 := Host.absf main_arg1
  let main_cst_0 : FVec F S_ .f32 := constant S_ .f32 0x7F800000#32
  let main_v5 : FVec F S8x16x12 .f32 := broadcastInDim S8x16x12 ![] bcast_S_S8x16x12 main_cst_0
  let main_v6 : IVec S8x16x12 1 := cmpf .olt main_v4 main_v5
  (main_v3, main_v6)
-- ==== Kernel.lean ====
abbrev S64x96 : Shape := ⟨2, ![64, 96]⟩
abbrev S8x16x12 : Shape := ⟨3, ![8, 16, 12]⟩
abbrev S4194304x4 : Shape := ⟨2, ![4194304, 4]⟩
abbrev S96x64 : Shape := ⟨2, ![96, 64]⟩
abbrev S128x12 : Shape := ⟨2, ![128, 12]⟩
abbrev S4x4194304 : Shape := ⟨2, ![4, 4194304]⟩
abbrev S64x4194304 : Shape := ⟨2, ![64, 4194304]⟩
abbrev S128x64 : Shape := ⟨2, ![128, 64]⟩
abbrev S4x16384 : Shape := ⟨2, ![4, 16384]⟩
abbrev S64x16384 : Shape := ⟨2, ![64, 16384]⟩
abbrev S128x256 : Shape := ⟨2, ![128, 256]⟩
abbrev S16x64 : Shape := ⟨2, ![16, 64]⟩
abbrev S1x64 : Shape := ⟨2, ![1, 64]⟩
abbrev S16x1 : Shape := ⟨2, ![16, 1]⟩
abbrev S64x128 : Shape := ⟨2, ![64, 128]⟩
abbrev S16x512 : Shape := ⟨2, ![16, 512]⟩
abbrev S4x512 : Shape := ⟨2, ![4, 512]⟩
abbrev S1x512 : Shape := ⟨2, ![1, 512]⟩
abbrev S8x512 : Shape := ⟨2, ![8, 512]⟩
abbrev S256x512 : Shape := ⟨2, ![256, 512]⟩
abbrev S128x512 : Shape := ⟨2, ![128, 512]⟩
abbrev S64x512 : Shape := ⟨2, ![64, 512]⟩
abbrev S8x16x64 : Shape := ⟨3, ![8, 16, 64]⟩
abbrev S64x8x16 : Shape := ⟨3, ![64, 8, 16]⟩

abbrev nBuf : Space → Nat
  | .hbm => 11
  | .vmem => 8
  | .smem => 0
  | _ => 0

abbrev bufTy : (tb : Table) → Fin (tcTables nBuf tb) → BufTy
  | .hbm, ⟨0, _⟩ => ⟨S64x96, .bf16⟩
  | .hbm, ⟨1, _⟩ => ⟨S8x16x12, .f32⟩
  | .hbm, ⟨2, _⟩ => ⟨S4194304x4, .i8⟩
  | .hbm, ⟨3, _⟩ => ⟨S64x96, .f32⟩
  | .hbm, ⟨4, _⟩ => ⟨S96x64, .f32⟩
  | .hbm, ⟨5, _⟩ => ⟨S128x12, .f32⟩
  | .hbm, ⟨6, _⟩ => ⟨S4x4194304, .i8⟩
  | .hbm, ⟨7, _⟩ => ⟨S64x4194304, .bf16⟩
  | .hbm, ⟨8, _⟩ => ⟨S128x64, .f32⟩
  | .hbm, ⟨9, _⟩ => ⟨S8x16x64, .f32⟩
  | .hbm, ⟨10, _⟩ => ⟨S64x8x16, .f32⟩
  | .local _ .vmem, ⟨0, _⟩ => ⟨S96x64, .f32⟩
  | .local _ .vmem, ⟨1, _⟩ => ⟨S128x12, .f32⟩
  | .local _ .vmem, ⟨2, _⟩ => ⟨S4x16384, .i8⟩
  | .local _ .vmem, ⟨3, _⟩ => ⟨S4x16384, .i8⟩
  | .local _ .vmem, ⟨4, _⟩ => ⟨S64x16384, .bf16⟩
  | .local _ .vmem, ⟨5, _⟩ => ⟨S64x16384, .bf16⟩
  | .local _ .vmem, ⟨6, _⟩ => ⟨S128x64, .f32⟩
  | .local _ .vmem, ⟨7, _⟩ => ⟨S128x256, .bf16⟩
  | _, _ => ⟨S64x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c512_i32 : BitVec 32 := 512#32
  let v6 : BitVec 32 := Scalar.muli arg7 c512_i32
  v6
def k0_off1 (k0_t1 : Fin k0_t1_loop.trips) : Fin 2 → Nat :=
  let c0_4 : Index := 0#32
  let c0_i32_2 : BitVec 32 := 0#32
  let c1_i32 : BitVec 32 := 1#32
  let arg7 : BitVec 32 := Scf.iv c0_i32_2 c1_i32 k0_t1
  let c512_i32 : BitVec 32 := 512#32
  let v6 : BitVec 32 := Scalar.muli arg7 c512_i32
  let v7 : BitVec 32 := v6
  let v8 : Index := Scalar.indexCast v7
  ![0, v8.toNat]
def k0_off2 (k0_t1 : Fin k0_t1_loop.trips) : Fin 2 → Nat :=
  let c0_31 : Index := 0#32
  let c0_i32_2 : BitVec 32 := 0#32
  let c1_i32 : BitVec 32 := 1#32
  let arg7 : BitVec 32 := Scf.iv c0_i32_2 c1_i32 k0_t1
  let c512_i32 : BitVec 32 := 512#32
  let v6 : BitVec 32 := Scalar.muli arg7 c512_i32
  let v7 : BitVec 32 := v6
  let v96 : Index := Scalar.indexCast v7
  ![0, v96.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x16384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S64x96 : Shape := ⟨2, ![64, 96]⟩
abbrev S8x16x12 : Shape := ⟨3, ![8, 16, 12]⟩
abbrev S4194304x4 : Shape := ⟨2, ![4194304, 4]⟩
abbrev S64x8x12 : Shape := ⟨3, ![64, 8, 12]⟩
abbrev S64x8x1x12 : Shape := ⟨4, ![64, 8, 1, 12]⟩
abbrev S1x8x16x12 : Shape := ⟨4, ![1, 8, 16, 12]⟩
abbrev S64x8x16x12 : Shape := ⟨4, ![64, 8, 16, 12]⟩
abbrev S_ : Shape := ⟨0, ![]⟩
abbrev S64x8x16 : Shape := ⟨3, ![64, 8, 16]⟩
abbrev S64x4x16 : Shape := ⟨3, ![64, 4, 16]⟩
abbrev S4 : Shape := ⟨1, ![4]⟩
abbrev S1x4 : Shape := ⟨2, ![1, 4]⟩
abbrev S4194304x4x1 : Shape := ⟨3, ![4194304, 4, 1]⟩
abbrev S4194304x4x2 : Shape := ⟨3, ![4194304, 4, 2]⟩
abbrev S64x4194304x4 : Shape := ⟨3, ![64, 4194304, 4]⟩
abbrev S64x4194304 : Shape := ⟨2, ![64, 4194304]⟩

abbrev nBuf : Space → Nat
  | .hbm => 68
  | .vmem => 0
  | .smem => 0
  | _ => 0

abbrev bufTy : (tb : Table) → Fin (tcTables nBuf tb) → BufTy
  | .hbm, ⟨0, _⟩ => ⟨S64x96, .bf16⟩
  | .hbm, ⟨1, _⟩ => ⟨S8x16x12, .f32⟩
  | .hbm, ⟨2, _⟩ => ⟨S4194304x4, .i8⟩
  | .hbm, ⟨3, _⟩ => ⟨S64x96, .f32⟩
  | .hbm, ⟨4, _⟩ => ⟨S64x8x12, .f32⟩
  | .hbm, ⟨5, _⟩ => ⟨S64x8x1x12, .f32⟩
  | .hbm, ⟨6, _⟩ => ⟨S1x8x16x12, .f32⟩
  | .hbm, ⟨7, _⟩ => ⟨S64x8x16x12, .f32⟩
  | .hbm, ⟨8, _⟩ => ⟨S64x8x16x12, .f32⟩
  | .hbm, ⟨9, _⟩ => ⟨S64x8x16x12, .f32⟩
  | .hbm, ⟨10, _⟩ => ⟨S64x8x16x12, .f32⟩
  | .hbm, ⟨11, _⟩ => ⟨S_, .f32⟩
  | .hbm, ⟨12, _⟩ => ⟨S64x8x16, .f32⟩
  | .hbm, ⟨13, _⟩ => ⟨S64x4x16, .f32⟩
  | .hbm, ⟨14, _⟩ => ⟨S64x4x16, .f32⟩
  | .hbm, ⟨15, _⟩ => ⟨S4, .i32⟩
  | .hbm, ⟨16, _⟩ => ⟨S1x4, .i32⟩
  | .hbm, ⟨17, _⟩ => ⟨S4194304x4, .i32⟩
  | .hbm, ⟨18, _⟩ => ⟨S_, .i32⟩
  | .hbm, ⟨19, _⟩ => ⟨S4194304x4, .i32⟩
  | .hbm, ⟨20, _⟩ => ⟨S4194304x4, .i32⟩
  | .hbm, ⟨21, _⟩ => ⟨S_, .i32⟩
  | .hbm, ⟨22, _⟩ => ⟨S4194304x4, .i32⟩
  | .hbm, ⟨23, _⟩ => ⟨S4194304x4, .i32⟩
  | .hbm, ⟨24, _⟩ => ⟨S_, .i32⟩
  | .hbm, ⟨25, _⟩ => ⟨S1x4, .i32⟩
  | .hbm, ⟨26, _⟩ => ⟨S1x4, .i1⟩
  | .hbm, ⟨27, _⟩ => ⟨S_, .i32⟩
  | .hbm, ⟨28, _⟩ => ⟨S1x4, .i32⟩
  | .hbm, ⟨29, _⟩ => ⟨S1x4, .i32⟩
  | .hbm, ⟨30, _⟩ => ⟨S1x4, .i32⟩
  | .hbm, ⟨31, _⟩ => ⟨S_, .i32⟩
  | .hbm, ⟨32, _⟩ => ⟨S4194304x4, .i32⟩
  | .hbm, ⟨33, _⟩ => ⟨S4194304x4, .i1⟩
  | .hbm, ⟨34, _⟩ => ⟨S_, .i32⟩
  | .hbm, ⟨35, _⟩ => ⟨S4194304x4, .i32⟩
  | .hbm, ⟨36, _⟩ => ⟨S4194304x4, .i32⟩
  | .hbm, ⟨37, _⟩ => ⟨S4194304x4, .i32⟩
  | .hbm, ⟨38, _⟩ => ⟨S4194304x4, .i32⟩
  | .hbm, ⟨39, _⟩ => ⟨S4194304x4x1, .i32⟩
  | .hbm, ⟨40, _⟩ => ⟨S4194304x4x1, .i32⟩
  | .hbm, ⟨41, _⟩ => ⟨S4194304x4x2, .i32⟩
  | .hbm, ⟨42, _⟩ => ⟨S64x4194304x4, .f32⟩
  | .hbm, ⟨43, _⟩ => ⟨S_, .f32⟩
  | .hbm, ⟨44, _⟩ => ⟨S64x4194304, .f32⟩
  | .hbm, ⟨45, _⟩ => ⟨S_, .i32⟩
  | .hbm, ⟨46, _⟩ => ⟨S1x4, .i32⟩
  | .hbm, ⟨47, _⟩ => ⟨S1x4, .i1⟩
  | .hbm, ⟨48, _⟩ => ⟨S_, .i32⟩
  | .hbm, ⟨49, _⟩ => ⟨S1x4, .i32⟩
  | .hbm, ⟨50, _⟩ => ⟨S1x4, .i32⟩
  | .hbm, ⟨51, _⟩ => ⟨S1x4, .i32⟩
  | .hbm, ⟨52, _⟩ => ⟨S_, .i32⟩
  | .hbm, ⟨53, _⟩ => ⟨S4194304x4, .i32⟩
  | .hbm, ⟨54, _⟩ => ⟨S4194304x4, .i1⟩
  | .hbm, ⟨55, _⟩ => ⟨S_, .i32⟩
  | .hbm, ⟨56, _⟩ => ⟨S4194304x4, .i32⟩
  | .hbm, ⟨57, _⟩ => ⟨S4194304x4, .i32⟩
  | .hbm, ⟨58, _⟩ => ⟨S4194304x4, .i32⟩
  | .hbm, ⟨59, _⟩ => ⟨S4194304x4, .i32⟩
  | .hbm, ⟨60, _⟩ => ⟨S4194304x4x1, .i32⟩
  | .hbm, ⟨61, _⟩ => ⟨S4194304x4x1, .i32⟩
  | .hbm, ⟨62, _⟩ => ⟨S4194304x4x2, .i32⟩
  | .hbm, ⟨63, _⟩ => ⟨S64x4194304x4, .f32⟩
  | .hbm, ⟨64, _⟩ => ⟨S_, .f32⟩
  | .hbm, ⟨65, _⟩ => ⟨S64x4194304, .f32⟩
  | .hbm, ⟨66, _⟩ => ⟨S64x4194304, .f32⟩
  | .hbm, ⟨67, _⟩ => ⟨S64x4194304, .bf16⟩
  | _, _ => ⟨S64x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_c_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Proof.KernelRuns.lean ====
/- What the two runs of the kernel on any float values share: the branch condition in closed form, the staging buffers, and the frame read off a run that says nothing of the outputs. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers the lines after the region WRITE, as references: results computed from contents the run does not name
    (an operand the body wrote by its own DMA, or a forgotten output), so nothing is stated of them either. -/
def T0 : Finset (Ref sig .tc) := {main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- A run that says nothing of the outputs leaves the three arguments as they were: none is staged by a window or
    written after the region, and the lines before the region do not write them. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1

/-- It holds at the first point only — by arithmetic of the point. -/
theorem hcond0_0 : ∀ t : Fin cfg0.N, cond0_0 (grid0.coords t) ↔ t.val % 256 = 0 :=
  (fun t => by
    have ht : t.val < 256 := Nat.lt_of_lt_of_eq t.isLt N_0
    have e0 : (grid0.coords t 0).val = t.val / 1 % 256 := Pipeline.Grid.coords_val t 0 (by decide) rfl
    simp only [cond0_0, k0_cond1, e0]
    word_cmp
   : ∀ t : Fin grid0.N, cond0_0 (grid0.coords t) ↔ t.val % 256 = 0)

/-! ## Where the windows are idle (the printed configuration's table `Cfg.idle`) -/

/-- Window 0 is never idle (an input). -/
theorem liveAt0_0 : ∀ t : Fin cfg0.N, cfg0.idle 0 (grid0.coords t) = false := fun _ => rfl

/-- Window 1 is never idle (an input). -/
theorem liveAt0_1 : ∀ t : Fin cfg0.N, cfg0.idle 1 (grid0.coords t) = false := fun _ => rfl

/-- Window 2 is never idle (an input). -/
theorem liveAt0_2 : ∀ t : Fin cfg0.N, cfg0.idle 2 (grid0.coords t) = false := fun _ => rfl

/-! ## The kernel body on any staging memrefs: a subtype the run finds -/

/-- Each window's current staging memref at point `t`, spelled as the pipeline passes it (`bodyAt0`), and its wholeness. -/
abbrev ms0_0 (t : Fin cfg0.N) : Memref sig .tc .vmem S96x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x12 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x16384 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)

/-- The scratch operands: whole scoped buffers of the kernel's own, passed beside the windows. -/
abbrev scM0_0 : Memref sig .tc .vmem S128x256 .bf16 := Memref.whole cc0_scratch0

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KernelRunA.lean ====
/- The kernel body on any float values at the first point, the outputs left at some contents. -/
module

public import proofs.«01_k».proof.Proof.KernelRuns

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1148000 in
/-- The body at the first point, on whole staging memrefs: the inputs keep their contents, the outputs and the scratch are
    handed in and back at some contents. -/
theorem runA (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (hc0 : cond0_0 i)
    (x0 : Vec F S96x64 .f32) (x1 : Vec F S128x12 .f32) (x2 : Vec F S4x16384 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_pq4_adc i arg1 harg1 arg2 harg2 arg3 harg3 arg4 harg4 arg5 harg5 arg6 harg6) K := by
    intro E K
    simp only [cc0_pq4_adc_eq_skeleton]; unfold cc0_pq4_adc_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

end Cert.Kernel.Hand

end
-- ==== Proof.KernelRunB.lean ====
/- The kernel body on any float values at a later point, the outputs left at some contents. -/
module

public import proofs.«01_k».proof.Proof.KernelRunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a later point, on whole staging memrefs: the inputs keep their contents, the outputs and the scratch are
    handed in and back at some contents. -/
theorem runB (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (hc0 : ¬cond0_0 i)
    (x0 : Vec F S96x64 .f32) (x1 : Vec F S128x12 .f32) (x2 : Vec F S4x16384 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_pq4_adc i arg1 harg1 arg2 harg2 arg3 harg3 arg4 harg4 arg5 harg5 arg6 harg6) K := by
    intro E K
    simp only [cc0_pq4_adc_eq_skeleton]; unfold cc0_pq4_adc_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

end Cert.Kernel.Hand

end
-- ==== Proof.KernelFrame.lean ====
/- The frame of the kernel on any float values: it ends, its arguments unchanged, every semaphore at zero. Nothing is said of the outputs here. -/
module

public import proofs.«01_k».proof.Proof.KernelRunB
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The two output windows (3, 4): the frame says nothing of what the kernel leaves in them. -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d))

set_option maxHeartbeats 800000 in
/-- The body at any point: the inputs' memrefs hold their blocks, the point is the first or a later one, and that
    case's run applies. The scratch and the generator register are taken from the invariant and given back to it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 256 := lt_of_lt_of_eq t.isLt (show cfg0.N = 256 from N_0)
  by_cases h0 : t.val % 256 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩⟩
    iapply ((runB c (grid0.coords t) _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The launch: the run ends with `run_main`'s statement and every semaphore counter of the machine at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- Every final state has the pipeline's input arrays unchanged, and every unscoped buffer outside `T0` as it was when
    the pipeline was entered. Nothing is said of the outputs. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_forgotten m ρ (fun c => (dats m 0 c).toRForget forgets0) (A_eq m) (run_main m ρ)

/-- The frame: from any memory with zero counters the kernel ends, its three arguments unchanged and every semaphore
    at zero, on any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.Points.lean ====
/- What the hand proof of the kernel's run shares: the condition of the body's one branch in closed form over the grid
   (it holds at the first point only), the staging memrefs of a point, and the class invariant with the scratch named. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's one branch condition, and the memrefs it runs on -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 256 = 0 :=
  (fun t => by
    have ht : t.val < 256 := Nat.lt_of_lt_of_eq t.isLt N_0
    have e0 : (grid0.coords t 0).val = t.val / 1 % 256 := Pipeline.Grid.coords_val t 0 (by decide) rfl
    simp only [cond0_0, k0_cond1, e0]
    word_cmp
   : ∀ t : Fin grid0.N, cond0_0 (grid0.coords t) ↔ t.val % 256 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x12 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x16384 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S128x256 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.Chunk.lean ====
/- One trip of the kernel's loop and the block the 32 trips leave together. -/
module

public import proofs.«01_k».proof.Proof.Points
public import Idealize.ShloMosaic.Lib.WritesUnit
public import Idealize.ShloMosaic.Lib.Writes
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## What one trip of the loop stores, and the block the whole loop leaves -/

/-- The row numbers 0 … 15 the one-hot comparison reads. -/
abbrev rows16 : IVec S16x512 16 := iota .tc S16x512 16 [0] iota_S16x512_d0_w16

/-- What one trip stores, from the split table `v3` and the trip's 4 × 512 code bytes. -/
def chunkVal (v3 : Vec F S128x256 .bf16) (w : Vec F S4x512 .i8) : FVec F S64x512 .bf16 :=
  k0_pay3 v3 (k0_pay61 rows16 w) (k0_pay62 rows16 w)
    (k0_pay64 (k0_pay63 rows16 w) (Scalar.ofBits .bf16 0x3F80#16) (Scalar.ofBits .bf16 0x0000#16))
    (k0_pay65 rows16 (k0_pay59 w)) (k0_pay66 rows16 (k0_pay60 w)) (k0_pay67 rows16 (k0_pay60 w)) (k0_pay68 rows16 (k0_pay60 w))
    (k0_pay69 rows16 (k0_pay60 w)) (Scalar.ofBits .bf16 0x3F80#16) (Scalar.ofBits .bf16 0x0000#16)

/-- The trip's pieces, as its run found them: one, at the trip's 512 columns. -/
theorem tripL_eq (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (v3 : Vec F S128x256 .bf16) (X : BufTy.Contents (Elt F) arg3.view.ty) (k : Fin k0_t1_loop.trips) :
    tripL_k0_t1 (F := F) Variants.none c none i arg1 harg1 arg2 harg2 arg3 harg3 arg4 harg4 arg5 harg5 arg6 harg6 v3 rows16 X k
      = [⟨Rect.unit (s := S64x16384) (k0_off2 k) S64x512.size (k0_off2_inb k),
          chunkVal v3 (arg3.view.readAt (Elt F) (Rect.unit (s := S4x16384) (k0_off1 k) S4x512.size (k0_off1_inb k)).toLoadRect X)⟩] := by
  unfold tripL_k0_t1 trip_k0_t1
  rfl

/-- The columns of trip `k` of a 4 × 16384 block of codes. -/
def chunkOf (x2 : Vec F S4x16384 .i8) (k : Fin 32) : Vec F S4x512 .i8 := fun z => x2 (ix2 (z 0) ⟨512 * k.val + (z 1).val, by
  have h1 : (z 1).val < 512 := (z 1).isLt
  have := k.isLt
  omega⟩)

theorem trips_eq : k0_t1_loop.trips = 32 := by decide +kernel

end Cert.KernelIdeal.Hand

end
-- ==== Proof.RunA.lean ====
/- The kernel body's run at the first point. -/
module

public import proofs.«01_k».proof.Proof.Chunk

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first point: the tables are built, then the loop runs -/

set_option maxHeartbeats 1148000 in
/-- The body at the first point. The pieces it stores into the table and into the scratch, and the split table the loop
    reads, are the run's own finds. -/
def runA (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (hc0 : cond0_0 i)
    (x0 : Vec F S96x64 .f32) (x1 : Vec F S128x12 .f32) (x2 : Vec F S4x16384 .i8) :
    { L : List (View.Piece (Elt F) S128x64 .f32) × List (View.Piece (Elt F) S128x256 .bf16) × Vec F S128x256 .bf16 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, (arg4.view.loc (c : Thread nD τ) ↦[arg4.view.set]{fullShare} arg4.view.writes (Elt F) f (pb_k0_t1 (F := F) Variants.none c none i arg1 harg1 arg2 harg2 arg3 harg3 arg4 harg4 arg5 harg5 arg6 harg6 L.2.2 rows16 (harg3.unread x2) (Scf.trips k0_t1_loop.lb k0_t1_loop.ub k0_t1_loop.st)))) ∗ (arg5.view.loc (c : Thread nD τ) ↦[arg5.view.set]{fullShare} arg5.view.writes (Elt F) arg5.view.junk L.1) ∗ (arg6.view.loc (c : Thread nD τ) ↦[arg6.view.set]{fullShare} arg6.view.writes (Elt F) arg6.view.junk L.2.1)) -∗ K ⟨⟩))
          ⊢ wp frame (wpE (defs₀ (F := F)) Variants.none c none) E (cc0_pq4_adc i arg1 harg1 arg2 harg2 arg3 harg3 arg4 harg4 arg5 harg5 arg6 harg6) K } := by
  refine ⟨⟨?_, ?_, ?_⟩, fun E K => ?run⟩
  case run =>
    simp only [cc0_pq4_adc_eq_skeleton]; unfold cc0_pq4_adc_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexact H4
    iexact HS0

end Cert.KernelIdeal.Hand

end
-- ==== Proof.Table.lean ====
/- The tables the first point builds, over the extended reals: the squared distances, and their split into three parts. -/
module

public import proofs.«01_k».proof.Proof.RunA
public import Idealize.ShloMosaic.Lib.Pointwise
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The table of squared distances -/

/-- The square of the difference of two extended reals. -/
def sqd (a b : EReal) : EReal := (a - b) * (a - b)

/-- The table: row `16 m + k`, column `b` is the squared distance of sub-vector `m` of query `b` to entry `k` of codebook
    `m`. (Row `12 m + d` of `x0` is coordinate `d` of the sub-vectors `m`; row `16 m + k` of `x1` is that entry.) -/
def lutT (x0 : FVec Ideal S96x64 .f32) (x1 : FVec Ideal S128x12 .f32) : FVec Ideal S128x64 .f32 := fun y =>
  ∑ d : Fin 12, sqd (x0 (ix2 ⟨12 * ((y 0).val / 16) + d.val, by have h : (y 0).val < 128 := (y 0).isLt; have := d.isLt; omega⟩ (y 1))) (x1 (ix2 (y 0) d))

/-- Twelve terms added one after the other. -/
theorem sum12 (f : Fin 12 → EReal) :
    ∑ d, f d = f 0 + f 1 + f 2 + f 3 + f 4 + f 5 + f 6 + f 7 + f 8 + f 9 + f 10 + f 11 := by
  simp only [Fin.sum_univ_castSucc, Fin.sum_univ_zero, zero_add]
  rfl

/-- Row `16 M + k` of the table, the twelve terms one after the other. -/
theorem lutT_row (x0 : FVec Ideal S96x64 .f32) (x1 : FVec Ideal S128x12 .f32) (M : ℕ) (hM : M < 8) (k : Fin 16) (b : Fin 64) (y : S128x64.Idx)
    (h0 : (y 0).val = 16 * M + k.val) (h1 : (y 1).val = b.val) :
    lutT x0 x1 y = sqd (x0 (ix2 ⟨12 * M + 0, by omega⟩ b)) (x1 (ix2 ⟨16 * M + k.val, by omega⟩ 0)) + sqd (x0 (ix2 ⟨12 * M + 1, by omega⟩ b)) (x1 (ix2 ⟨16 * M + k.val, by omega⟩ 1)) + sqd (x0 (ix2 ⟨12 * M + 2, by omega⟩ b)) (x1 (ix2 ⟨16 * M + k.val, by omega⟩ 2)) + sqd (x0 (ix2 ⟨12 * M + 3, by omega⟩ b)) (x1 (ix2 ⟨16 * M + k.val, by omega⟩ 3)) + sqd (x0 (ix2 ⟨12 * M + 4, by omega⟩ b)) (x1 (ix2 ⟨16 * M + k.val, by omega⟩ 4)) + sqd (x0 (ix2 ⟨12 * M + 5, by omega⟩ b)) (x1 (ix2 ⟨16 * M + k.val, by omega⟩ 5)) + sqd (x0 (ix2 ⟨12 * M + 6, by omega⟩ b)) (x1 (ix2 ⟨16 * M + k.val, by omega⟩ 6)) + sqd (x0 (ix2 ⟨12 * M + 7, by omega⟩ b)) (x1 (ix2 ⟨16 * M + k.val, by omega⟩ 7)) + sqd (x0 (ix2 ⟨12 * M + 8, by omega⟩ b)) (x1 (ix2 ⟨16 * M + k.val, by omega⟩ 8)) + sqd (x0 (ix2 ⟨12 * M + 9, by omega⟩ b)) (x1 (ix2 ⟨16 * M + k.val, by omega⟩ 9)) + sqd (x0 (ix2 ⟨12 * M + 10, by omega⟩ b)) (x1 (ix2 ⟨16 * M + k.val, by omega⟩ 10)) + sqd (x0 (ix2 ⟨12 * M + 11, by omega⟩ b)) (x1 (ix2 ⟨16 * M + k.val, by omega⟩ 11)) := by
  have e : y = ix2 ⟨16 * M + k.val, by omega⟩ b := funext fun a => Fin.ext (by
    match a with
    | ⟨0, _⟩ => exact h0
    | ⟨1, _⟩ => exact h1)
  have hd : (16 * M + k.val) / 16 = M := by omega
  rw [e]
  unfold lutT
  rw [sum12]
  simp only [ix2_0, ix2_1, hd]
  rfl

set_option maxHeartbeats 1600000 in
theorem table_piece (arg1 : Memref sig .tc .vmem S96x64 .f32) (harg1 : arg1.IsWhole) (arg2 : Memref sig .tc .vmem S128x12 .f32) (harg2 : arg2.IsWhole) (c : Dev nD)
    (x0 : Vec Ideal S96x64 .f32) (x1 : Vec Ideal S128x12 .f32) :
    ∀ p ∈ runA.sl.H4_8 (F := Ideal) c arg1 harg1 arg2 harg2 x0 x1, ∀ x : p.1.shape.Idx, p.2 x = lutT x0 x1 (p.1.emb x) := by
  sl_unfold_run_names
  intro p hp x
  simp only [List.mem_cons, List.mem_nil_iff, or_false] at hp
  rcases hp with rfl | rfl | rfl | rfl | rfl | rfl | rfl | rfl
  · simp only [View.readAt_eq_ld, harg1.read_unread, harg2.read_unread]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [lutT_row x0 x1 7 (by decide) (x 0) (x 1) _ (by show 112 + 1 * (x 0).val = _; omega) (by show 0 + 1 * (x 1).val = _; omega)]
    rfl
  · simp only [View.readAt_eq_ld, harg1.read_unread, harg2.read_unread]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [lutT_row x0 x1 6 (by decide) (x 0) (x 1) _ (by show 96 + 1 * (x 0).val = _; omega) (by show 0 + 1 * (x 1).val = _; omega)]
    rfl
  · simp only [View.readAt_eq_ld, harg1.read_unread, harg2.read_unread]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [lutT_row x0 x1 5 (by decide) (x 0) (x 1) _ (by show 80 + 1 * (x 0).val = _; omega) (by show 0 + 1 * (x 1).val = _; omega)]
    rfl
  · simp only [View.readAt_eq_ld, harg1.read_unread, harg2.read_unread]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [lutT_row x0 x1 4 (by decide) (x 0) (x 1) _ (by show 64 + 1 * (x 0).val = _; omega) (by show 0 + 1 * (x 1).val = _; omega)]
    rfl
  · simp only [View.readAt_eq_ld, harg1.read_unread, harg2.read_unread]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [lutT_row x0 x1 3 (by decide) (x 0) (x 1) _ (by show 48 + 1 * (x 0).val = _; omega) (by show 0 + 1 * (x 1).val = _; omega)]
    rfl
  · simp only [View.readAt_eq_ld, harg1.read_unread, harg2.read_unread]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [lutT_row x0 x1 2 (by decide) (x 0) (x 1) _ (by show 32 + 1 * (x 0).val = _; omega) (by show 0 + 1 * (x 1).val = _; omega)]
    rfl
  · simp only [View.readAt_eq_ld, harg1.read_unread, harg2.read_unread]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [lutT_row x0 x1 1 (by decide) (x 0) (x 1) _ (by show 16 + 1 * (x 0).val = _; omega) (by show 0 + 1 * (x 1).val = _; omega)]
    rfl
  · simp only [View.readAt_eq_ld, harg1.read_unread, harg2.read_unread]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
    rw [lutT_row x0 x1 0 (by decide) (x 0) (x 1) _ (by show 0 + 1 * (x 0).val = _; omega) (by show 0 + 1 * (x 1).val = _; omega)]
    simp only [Nat.mul_zero, Nat.zero_add]
    rfl

end Cert.KernelIdeal.Hand

end
-- ==== Proof.Split.lean ====
/- What the first point leaves in the table and in the scratch, over the extended reals. -/
module

public import proofs.«01_k».proof.Proof.Table

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)
/-! ## What the first point's stores leave in the table and in the scratch -/

/-- The eight pieces cover the table, so it reads back as the squared distances. -/
theorem table_read (arg1 : Memref sig .tc .vmem S96x64 .f32) (harg1 : arg1.IsWhole) (arg2 : Memref sig .tc .vmem S128x12 .f32) (harg2 : arg2.IsWhole) (arg5 : Memref sig .tc .vmem S128x64 .f32) (arg6 : Memref sig .tc .vmem S128x256 .bf16) (c : Dev nD)
    (x0 : Vec Ideal S96x64 .f32) (x1 : Vec Ideal S128x12 .f32) (f : BufTy.Contents (Elt Ideal) arg5.view.ty) :
    arg5.view.read (Elt Ideal) (arg5.view.writes (Elt Ideal) f (runA.sl.H4_8 (F := Ideal) c arg1 harg1 arg2 harg2 x0 x1)) = lutT x0 x1 := by
  funext y
  refine View.read_writes_apply_of_pieces arg5.view f (lutT x0 x1) _ (table_piece arg1 harg1 arg2 harg2 c x0 x1) y ?_
  have h0 : (y 0).val < 128 := (y 0).isLt
  have h1 : (y 1).val < 64 := (y 1).isLt
  sl_unfold_run_names
  simp only [List.exists_mem_cons_iff, Rect.mem_set_unit, Fin.forall_fin_two]
  simp only [List.not_mem_nil, false_and, exists_false, or_false]
  simp only [Matrix.cons_val_zero, Matrix.cons_val_one]
  show (112 ≤ (y 0).val ∧ (y 0).val < 112 + 16) ∧ _ ∨ (96 ≤ (y 0).val ∧ (y 0).val < 96 + 16) ∧ _ ∨ (80 ≤ (y 0).val ∧ (y 0).val < 80 + 16) ∧ _ ∨
    (64 ≤ (y 0).val ∧ (y 0).val < 64 + 16) ∧ _ ∨ (48 ≤ (y 0).val ∧ (y 0).val < 48 + 16) ∧ _ ∨ (32 ≤ (y 0).val ∧ (y 0).val < 32 + 16) ∧ _ ∨
    (16 ≤ (y 0).val ∧ (y 0).val < 16 + 16) ∧ _ ∨ (0 ≤ (y 0).val ∧ (y 0).val < 0 + 16) ∧ (0 ≤ (y 1).val ∧ (y 1).val < 0 + 64)
  have e1 : (0 ≤ (y 1).val ∧ (y 1).val < 0 + 64) := by omega
  rcases (by omega : (y 0).val / 16 = 7 ∨ (y 0).val / 16 = 6 ∨ (y 0).val / 16 = 5 ∨ (y 0).val / 16 = 4 ∨ (y 0).val / 16 = 3 ∨ (y 0).val / 16 = 2 ∨ (y 0).val / 16 = 1 ∨ (y 0).val / 16 = 0) with h | h | h | h | h | h | h | h
  · exact .inl ⟨by omega, e1⟩
  · exact .inr (.inl ⟨by omega, e1⟩)
  · exact .inr (.inr (.inl ⟨by omega, e1⟩))
  · exact .inr (.inr (.inr (.inl ⟨by omega, e1⟩)))
  · exact .inr (.inr (.inr (.inr (.inl ⟨by omega, e1⟩))))
  · exact .inr (.inr (.inr (.inr (.inr (.inl ⟨by omega, e1⟩)))))
  · exact .inr (.inr (.inr (.inr (.inr (.inr (.inl ⟨by omega, e1⟩))))))
  · exact .inr (.inr (.inr (.inr (.inr (.inr (.inr ⟨by omega, e1⟩))))))

/-- The whole table as the body loads it again. -/
theorem table_load (arg1 : Memref sig .tc .vmem S96x64 .f32) (harg1 : arg1.IsWhole) (arg2 : Memref sig .tc .vmem S128x12 .f32) (harg2 : arg2.IsWhole) (arg5 : Memref sig .tc .vmem S128x64 .f32) (arg6 : Memref sig .tc .vmem S128x256 .bf16) (c : Dev nD)
    (x0 : Vec Ideal S96x64 .f32) (x1 : Vec Ideal S128x12 .f32) :
    runA.sl.v886 (F := Ideal) c arg1 harg1 arg2 harg2 arg5 x0 x1 = lutT x0 x1 := by
  sl_unfold_run_names
  unfold View.readCov
  rw [View.readAt_full]
  exact table_read arg1 harg1 arg2 harg2 arg5 arg6 c x0 x1 _

/-- The split table: the transposed table and its first remainder side by side, and below them the second remainder and
    zeros. Over the extended reals the remainders are differences of a number with itself. -/
def lhsT (T : FVec Ideal S128x64 .f32) : FVec Ideal S128x256 .bf16 := fun y =>
  if h0 : (y 0).val < 64 then
    if h1 : (y 1).val < 128 then T (ix2 ⟨(y 1).val, h1⟩ ⟨(y 0).val, h0⟩)
    else
      have h1' : (y 1).val - 128 < 128 := by have : (y 1).val < 256 := (y 1).isLt; omega
      T (ix2 ⟨(y 1).val - 128, h1'⟩ ⟨(y 0).val, h0⟩) - T (ix2 ⟨(y 1).val - 128, h1'⟩ ⟨(y 0).val, h0⟩)
  else
    have h0' : (y 0).val - 64 < 64 := by have : (y 0).val < 128 := (y 0).isLt; omega
    if h1 : (y 1).val < 128 then
      T (ix2 ⟨(y 1).val, h1⟩ ⟨(y 0).val - 64, h0'⟩) - T (ix2 ⟨(y 1).val, h1⟩ ⟨(y 0).val - 64, h0'⟩)
        - (T (ix2 ⟨(y 1).val, h1⟩ ⟨(y 0).val - 64, h0'⟩) - T (ix2 ⟨(y 1).val, h1⟩ ⟨(y 0).val - 64, h0'⟩))
    else 0

/-- Two indices with the same coordinates. -/
theorem ix2_ext {n0 n1 : ℕ} {a a' : Fin n0} {b b' : Fin n1} (ha : a.val = a'.val) (hb : b.val = b'.val) : ix2 a b = ix2 a' b' := by
  rw [Fin.ext ha, Fin.ext hb]

/-- What the four stores into the scratch hold. -/
theorem split_piece (arg1 : Memref sig .tc .vmem S96x64 .f32) (harg1 : arg1.IsWhole) (arg2 : Memref sig .tc .vmem S128x12 .f32) (harg2 : arg2.IsWhole) (arg5 : Memref sig .tc .vmem S128x64 .f32) (arg6 : Memref sig .tc .vmem S128x256 .bf16) (c : Dev nD)
    (x0 : Vec Ideal S96x64 .f32) (x1 : Vec Ideal S128x12 .f32) :
    ∀ p ∈ runA.sl.HS0_4 (F := Ideal) c arg1 harg1 arg2 harg2 arg5 x0 x1, ∀ x : p.1.shape.Idx, p.2 x = lhsT (lutT x0 x1) (p.1.emb x) := by
  have hT := table_load arg1 harg1 arg2 harg2 arg5 arg6 c x0 x1
  unfold runA.sl.HS0_4 runA.sl.r_41
  rw [hT]
  generalize lutT x0 x1 = T
  intro p hp x
  simp only [List.mem_cons, List.mem_nil_iff, or_false] at hp
  rcases hp with rfl | rfl | rfl | rfl
  · have h0 : (x 0).val < 64 := (x 0).isLt
    have h1 : (x 1).val < 128 := (x 1).isLt
    unfold lhsT
    rw [dif_neg (by show ¬64 + 1 * (x 0).val < 64; omega), dif_neg (by show ¬128 + 1 * (x 1).val < 128; omega)]
    pointwise [k0_pay2]
  · have h0 : (x 0).val < 64 := (x 0).isLt
    have h1 : (x 1).val < 128 := (x 1).isLt
    unfold lhsT
    rw [dif_neg (by show ¬64 + 1 * (x 0).val < 64; omega), dif_pos (by show 0 + 1 * (x 1).val < 128; omega)]
    pointwise [k0_pay1, k0_pay55, k0_pay54, k0_pay53, k0_pay52, k0_pay51]
    exact congrArg (fun u => T u - T u - (T u - T u)) (ix2_ext (by show (x 1).val = 0 + 1 * (x 1).val; omega) (by show (x 0).val = 64 + 1 * (x 0).val - 64; omega))
  · have h0 : (x 0).val < 64 := (x 0).isLt
    have h1 : (x 1).val < 128 := (x 1).isLt
    unfold lhsT
    rw [dif_pos (by show 0 + 1 * (x 0).val < 64; omega), dif_neg (by show ¬128 + 1 * (x 1).val < 128; omega)]
    pointwise [k0_pay57, k0_pay54, k0_pay53, k0_pay52, k0_pay51]
    exact congrArg (fun u => T u - T u) (ix2_ext (by show (x 1).val = 128 + 1 * (x 1).val - 128; omega) (by show (x 0).val = 0 + 1 * (x 0).val; omega))
  · have h0 : (x 0).val < 64 := (x 0).isLt
    have h1 : (x 1).val < 128 := (x 1).isLt
    unfold lhsT
    rw [dif_pos (by show 0 + 1 * (x 0).val < 64; omega), dif_pos (by show 0 + 1 * (x 1).val < 128; omega)]
    pointwise [k0_pay56, k0_pay52, k0_pay51]
    exact congrArg T (ix2_ext (by show (x 1).val = 0 + 1 * (x 1).val; omega) (by show (x 0).val = 0 + 1 * (x 0).val; omega))

/-- The four pieces cover the scratch. -/
theorem split_read (arg1 : Memref sig .tc .vmem S96x64 .f32) (harg1 : arg1.IsWhole) (arg2 : Memref sig .tc .vmem S128x12 .f32) (harg2 : arg2.IsWhole) (arg5 : Memref sig .tc .vmem S128x64 .f32) (arg6 : Memref sig .tc .vmem S128x256 .bf16) (c : Dev nD)
    (x0 : Vec Ideal S96x64 .f32) (x1 : Vec Ideal S128x12 .f32) (f : BufTy.Contents (Elt Ideal) arg6.view.ty) :
    arg6.view.read (Elt Ideal) (arg6.view.writes (Elt Ideal) f (runA.sl.HS0_4 (F := Ideal) c arg1 harg1 arg2 harg2 arg5 x0 x1)) = lhsT (lutT x0 x1) := by
  funext y
  refine View.read_writes_apply_of_pieces arg6.view f (lhsT (lutT x0 x1)) _ (split_piece arg1 harg1 arg2 harg2 arg5 arg6 c x0 x1) y ?_
  have h0 : (y 0).val < 128 := (y 0).isLt
  have h1 : (y 1).val < 256 := (y 1).isLt
  unfold runA.sl.HS0_4
  simp only [List.exists_mem_cons_iff, Rect.mem_set_unit, Fin.forall_fin_two]
  simp only [List.not_mem_nil, false_and, exists_false, or_false]
  show ((64 ≤ (y 0).val ∧ (y 0).val < 64 + 64) ∧ (128 ≤ (y 1).val ∧ (y 1).val < 128 + 128)) ∨ ((64 ≤ (y 0).val ∧ (y 0).val < 64 + 64) ∧ (0 ≤ (y 1).val ∧ (y 1).val < 0 + 128)) ∨
    ((0 ≤ (y 0).val ∧ (y 0).val < 0 + 64) ∧ (128 ≤ (y 1).val ∧ (y 1).val < 128 + 128)) ∨ ((0 ≤ (y 0).val ∧ (y 0).val < 0 + 64) ∧ (0 ≤ (y 1).val ∧ (y 1).val < 0 + 128))
  omega

/-- The split table as the loop of the first point loads it. -/
theorem split_load (arg1 : Memref sig .tc .vmem S96x64 .f32) (harg1 : arg1.IsWhole) (arg2 : Memref sig .tc .vmem S128x12 .f32) (harg2 : arg2.IsWhole) (arg5 : Memref sig .tc .vmem S128x64 .f32) (arg6 : Memref sig .tc .vmem S128x256 .bf16) (c : Dev nD)
    (x0 : Vec Ideal S96x64 .f32) (x1 : Vec Ideal S128x12 .f32) :
    runA.sl.v3 (F := Ideal) c arg1 harg1 arg2 harg2 arg5 arg6 x0 x1 = lhsT (lutT x0 x1) := by
  unfold runA.sl.v3 View.readCov
  rw [View.readAt_full]
  exact split_read arg1 harg1 arg2 harg2 arg5 arg6 c x0 x1 _

end Cert.KernelIdeal.Hand

end
-- ==== Proof.RunB.lean ====
/- The kernel body's run at a later point. -/
module

public import proofs.«01_k».proof.Proof.RunA
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every later point: the loop alone -/

set_option maxHeartbeats 1000000 in
/-- The body at a later point: the table and the scratch stay as they were; the loop reads the
    scratch, the pieces it stores being the run's own find. -/
def runB (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (hc0 : ¬cond0_0 i)
    (x0 : Vec F S96x64 .f32) (x1 : Vec F S128x12 .f32) (x2 : Vec F S4x16384 .i8) (x4 : Vec F S128x64 .f32) (x5 : Vec F S128x256 .bf16) :
    { L : List (View.Piece (Elt F) S64x16384 .bf16) // ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5
            ∗ (iprop(owns (c : Thread nD τ) arg1 fullShare x0 ∗ owns (c : Thread nD τ) arg2 fullShare x1 ∗ owns (c : Thread nD τ) arg3 fullShare x2 ∗ (∃ f, (arg4.view.loc (c : Thread nD τ) ↦[arg4.view.set]{fullShare} arg4.view.writes (Elt F) f L)) ∗ owns (c : Thread nD τ) arg5 fullShare x4 ∗ owns (c : Thread nD τ) arg6 fullShare x5) -∗ K ⟨⟩))
          ⊢ wp frame (wpE (defs₀ (F := F)) Variants.none c none) E (cc0_pq4_adc i arg1 harg1 arg2 harg2 arg3 harg3 arg4 harg4 arg5 harg5 arg6 harg6) K } := by
  refine ⟨?_, fun E K => ?run⟩
  case run =>
    simp only [cc0_pq4_adc_eq_skeleton]; unfold cc0_pq4_adc_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hs0, HS0⟩, Hk⟩
    obtain rfl := harg1.eq_unread hf0; obtain rfl := harg2.eq_unread hf1; obtain rfl := harg3.eq_unread hf2
    obtain rfl := harg5.eq_unread hf4; obtain rfl := harg6.eq_unread hs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; isplitr; · ipureintro; exact harg5.read_unread _
      iexact H4
    iexists _; isplitr; · ipureintro; exact harg6.read_unread _
    iexact HS0

/-- What the loop stores at a later point: the pieces of all its trips, read off the scratch as it was. -/
theorem runB_fst (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (hc0 : ¬cond0_0 i)
    (x0 : Vec F S96x64 .f32) (x1 : Vec F S128x12 .f32) (x2 : Vec F S4x16384 .i8) (x4 : Vec F S128x64 .f32) (x5 : Vec F S128x256 .bf16) :
    (runB (F := F) c i arg1 harg1 arg2 harg2 arg3 harg3 arg4 harg4 arg5 harg5 arg6 harg6 hc0 x0 x1 x2 x4 x5).1 =
      pb_k0_t1 (F := F) Variants.none c none i arg1 harg1 arg2 harg2 arg3 harg3 arg4 harg4 arg5 harg5 arg6 harg6 x5 rows16 (harg3.unread x2) k0_t1_loop.trips := by
  unfold runB
  sl_unfold_run_names
  dsimp only
  rw [View.readAt_full, harg6.read_unread]

end Cert.KernelIdeal.Hand

end
-- ==== Proof.Loop.lean ====
/- The block the kernel's 32 trips leave together, column by column. -/
module

public import proofs.«01_k».proof.Proof.Chunk

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The pieces of all trips, read back -/

/-- What the loop leaves in the output block: column `512 k + l` is column `l` of what trip `k` stores. -/
def distBlk (v3 : Vec F S128x256 .bf16) (x2 : Vec F S4x16384 .i8) : Vec F S64x16384 .bf16 := fun y =>
  chunkVal v3 (chunkOf x2 ⟨(y 1).val / 512, by have h : (y 1).val < 16384 := (y 1).isLt; omega⟩)
    (ix2 (y 0) ⟨(y 1).val % 512, Nat.mod_lt _ (by decide)⟩)

theorem off1_0 (k : Fin k0_t1_loop.trips) : k0_off1 k 0 = 0 := congrFun (k0_off1_eq k) 0
theorem off1_1 (k : Fin k0_t1_loop.trips) : k0_off1 k 1 = 512 * k.val := congrFun (k0_off1_eq k) 1
theorem off2_0 (k : Fin k0_t1_loop.trips) : k0_off2 k 0 = 0 := congrFun (k0_off2_eq k) 0
theorem off2_1 (k : Fin k0_t1_loop.trips) : k0_off2 k 1 = 512 * k.val := congrFun (k0_off2_eq k) 1

private theorem div_of {a b k : ℕ} (h : a = 512 * k + b) (hb : b < 512) : a / 512 = k := by omega

/-- A piece of the first `n` trips is the piece of one of them. -/
theorem pb_mem (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (v3 : Vec F S128x256 .bf16) (X : BufTy.Contents (Elt F) arg3.view.ty) :
    ∀ n ≤ k0_t1_loop.trips, ∀ p ∈ pb_k0_t1 (F := F) Variants.none c none i arg1 harg1 arg2 harg2 arg3 harg3 arg4 harg4 arg5 harg5 arg6 harg6 v3 rows16 X n,
      ∃ k : Fin k0_t1_loop.trips, p ∈ tripL_k0_t1 (F := F) Variants.none c none i arg1 harg1 arg2 harg2 arg3 harg3 arg4 harg4 arg5 harg5 arg6 harg6 v3 rows16 X k
  | 0, _, p, hp => by rw [pb_k0_t1.eq_1] at hp; exact absurd hp List.not_mem_nil
  | n + 1, hn, p, hp => by
    rw [pb_k0_t1_succ (F := F) Variants.none c none i arg1 harg1 arg2 harg2 arg3 harg3 arg4 harg4 arg5 harg5 arg6 harg6 v3 rows16 X ⟨n, hn⟩, List.mem_append] at hp
    rcases hp with hp | hp
    · exact ⟨_, hp⟩
    · exact pb_mem c i arg1 harg1 arg2 harg2 arg3 harg3 arg4 harg4 arg5 harg5 arg6 harg6 v3 X n (Nat.le_of_succ_le hn) p hp

/-- … and the piece of a trip before the `n`-th is among them. -/
theorem mem_pb (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (v3 : Vec F S128x256 .bf16) (X : BufTy.Contents (Elt F) arg3.view.ty) (k : Fin k0_t1_loop.trips) (p)
    (hp : p ∈ tripL_k0_t1 (F := F) Variants.none c none i arg1 harg1 arg2 harg2 arg3 harg3 arg4 harg4 arg5 harg5 arg6 harg6 v3 rows16 X k) :
    ∀ n ≤ k0_t1_loop.trips, k.val < n → p ∈ pb_k0_t1 (F := F) Variants.none c none i arg1 harg1 arg2 harg2 arg3 harg3 arg4 harg4 arg5 harg5 arg6 harg6 v3 rows16 X n
  | 0, _, h => absurd h (Nat.not_lt_zero _)
  | n + 1, hn, h => by
    rw [pb_k0_t1_succ (F := F) Variants.none c none i arg1 harg1 arg2 harg2 arg3 harg3 arg4 harg4 arg5 harg5 arg6 harg6 v3 rows16 X ⟨n, hn⟩, List.mem_append]
    rcases Nat.lt_succ_iff_lt_or_eq.mp h with h | h
    · exact Or.inr (mem_pb c i arg1 harg1 arg2 harg2 arg3 harg3 arg4 harg4 arg5 harg5 arg6 harg6 v3 X k p hp n (Nat.le_of_succ_le hn) h)
    · left
      have e : k = ⟨n, hn⟩ := Fin.ext h
      rwa [← e]

/-- The codes a trip loads are its 512 columns of the block. -/
theorem chunk_load (arg3 : Memref sig .tc .vmem S4x16384 .i8) (harg3 : arg3.IsWhole) (x2 : Vec F S4x16384 .i8) (k : Fin k0_t1_loop.trips)
    (k' : Fin 32) (hk : k'.val = k.val) :
    arg3.view.readAt (Elt F) (Rect.unit (s := S4x16384) (k0_off1 k) S4x512.size (k0_off1_inb k)).toLoadRect (harg3.unread x2) = chunkOf x2 k' := by
  funext z
  show arg3.view.read (Elt F) (harg3.unread x2) _ = _
  rw [harg3.read_unread]
  unfold chunkOf
  refine congrArg x2 (funext fun a => Fin.ext ?_)
  match a with
  | ⟨0, _⟩ =>
    show (k0_off1 k) 0 + 1 * (z 0).val = (z 0).val
    rw [off1_0]; omega
  | ⟨1, _⟩ =>
    show (k0_off1 k) 1 + 1 * (z 1).val = 512 * k'.val + (z 1).val
    rw [off1_1]; omega

/-- The loop's pieces read back: every column of the block is covered, and holds what its trip stored. -/
theorem loop_read (c : Dev nD) (i : grid0.Coords) (arg1 : Memref sig .tc .vmem S96x64 .f32) (harg1 : arg1.IsWhole) (arg2 : Memref sig .tc .vmem S128x12 .f32) (harg2 : arg2.IsWhole) (arg3 : Memref sig .tc .vmem S4x16384 .i8) (harg3 : arg3.IsWhole) (arg4 : Memref sig .tc .vmem S64x16384 .bf16) (harg4 : arg4.IsWhole) (arg5 : Memref sig .tc .vmem S128x64 .f32) (harg5 : arg5.IsWhole) (arg6 : Memref sig .tc .vmem S128x256 .bf16) (harg6 : arg6.IsWhole) (v3 : Vec F S128x256 .bf16) (x2 : Vec F S4x16384 .i8) (G : BufTy.Contents (Elt F) arg4.view.ty) :
    arg4.view.read (Elt F) (arg4.view.writes (Elt F) G (pb_k0_t1 (F := F) Variants.none c none i arg1 harg1 arg2 harg2 arg3 harg3 arg4 harg4 arg5 harg5 arg6 harg6 v3 rows16 (harg3.unread x2) k0_t1_loop.trips))
      = distBlk v3 x2 := by
  funext y
  have hy : (y 1).val < 16384 := (y 1).isLt
  refine View.read_writes_apply_of_pieces arg4.view G (distBlk v3 x2) _ (fun p hp x => ?_) y ?_
  · obtain ⟨k, hk⟩ := pb_mem c i arg1 harg1 arg2 harg2 arg3 harg3 arg4 harg4 arg5 harg5 arg6 harg6 v3 _ _ le_rfl p hp
    rw [tripL_eq, List.mem_singleton] at hk
    subst hk
    have hx : (x 1).val < 512 := (x 1).isLt
    have hk32 : k.val < 32 := Nat.lt_of_lt_of_le k.isLt k0_t1_abs.2.1
    have e0 : ∀ a, ((Rect.unit (s := S64x16384) (k0_off2 k) S64x512.size (k0_off2_inb k)).emb x a).val = (k0_off2 k) a + 1 * (x a).val := fun a => rfl
    have e1 : ((Rect.unit (s := S64x16384) (k0_off2 k) S64x512.size (k0_off2_inb k)).emb x 1).val = 512 * k.val + (x 1).val := by
      rw [e0, off2_1, Nat.one_mul]
    have e2 : ((Rect.unit (s := S64x16384) (k0_off2 k) S64x512.size (k0_off2_inb k)).emb x 0).val = (x 0).val := by
      rw [e0, off2_0, Nat.one_mul, Nat.zero_add]
    dsimp only
    unfold distBlk
    rw [chunk_load arg3 harg3 x2 k ⟨((Rect.unit (s := S64x16384) (k0_off2 k) S64x512.size (k0_off2_inb k)).emb x 1).val / 512, by omega⟩
      (div_of e1 hx)]
    refine congrArg _ (funext fun a => Fin.ext ?_)
    match a with
    | ⟨0, _⟩ => exact e2.symm
    | ⟨1, _⟩ =>
      show (x 1).val = ((Rect.unit (s := S64x16384) (k0_off2 k) S64x512.size (k0_off2_inb k)).emb x 1).val % 512
      omega
  · have hk : (y 1).val / 512 < k0_t1_loop.trips := by rw [trips_eq]; omega
    refine ⟨_, mem_pb c i arg1 harg1 arg2 harg2 arg3 harg3 arg4 harg4 arg5 harg5 arg6 harg6 v3 _ ⟨(y 1).val / 512, hk⟩ _ (by rw [tripL_eq]; exact List.mem_singleton_self _) _ le_rfl hk, ?_⟩
    rw [Rect.mem_set_unit]
    intro a
    match a with
    | ⟨0, _⟩ =>
      have h0 : (y 0).val < 64 := (y 0).isLt
      show (k0_off2 _) 0 ≤ (y 0).val ∧ (y 0).val < (k0_off2 _) 0 + 64
      rw [off2_0]; omega
    | ⟨1, _⟩ =>
      show (k0_off2 _) 1 ≤ (y 1).val ∧ (y 1).val < (k0_off2 _) 1 + 512
      rw [off2_1]
      show 512 * ((y 1).val / 512) ≤ (y 1).val ∧ (y 1).val < 512 * ((y 1).val / 512) + 512
      omega

end Cert.KernelIdeal.Hand

end
-- ==== Proof.Body.lean ====
/- The kernel's proof data over the extended reals, and the body's obligation at every point. -/
module

public import proofs.«01_k».proof.Proof.Split
public import proofs.«01_k».proof.Proof.RunB
public import proofs.«01_k».proof.Proof.Loop
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)
/-! ## The proof data: what each buffer holds after each point -/

variable (mI : (ℓ : Loc nD τ sig) → Buf (Elt Ideal) ℓ)

/-- The queries, transposed, as the region finds them. -/
def X0 (c : Dev nD) : Vec Ideal S96x64 .f32 := V mI c main_v1
/-- The codebooks, the entries of all eight one below the other, as the region finds them. -/
def X1 (c : Dev nD) : Vec Ideal S128x12 .f32 := V mI c main_v2
/-- The table of squared distances. -/
def tab (c : Dev nD) : Vec Ideal S128x64 .f32 := lutT (X0 mI c) (X1 mI c)

theorem idx : ∀ t : Fin cfg0.N, win0_0.index t = ![0, 0] ∧ win0_1.index t = ![0, 0] ∧ win0_2.index t = ![0, t.val] ∧ win0_3.index t = ![0, t.val] ∧ win0_4.index t = ![0, 0] :=
  (by decide +kernel : ∀ t : Fin grid0.N, _)

/-- The queries' block is the whole array at every point, -/
theorem iblk0 (c : Dev nD) (t : Fin cfg0.N) : iblk mI c 0 t = X0 mI c := by
  unfold X0
  blk_ext! [iblk, idx t]
/-- and so is the codebooks' block. -/
theorem iblk1 (c : Dev nD) (t : Fin cfg0.N) : iblk mI c 1 t = X1 mI c := by
  unfold X1
  blk_ext! [iblk, idx t]

/-- After every point: the inputs' buffers at their blocks, the distances' buffer at the block the loop leaves, the table's
    buffer at the table; the scratch holds the split table after the first point. -/
def dats (_ : Fin 1) (c : Dev nD) : Dat τ (Elt Ideal) Unit ℕ (UR sig nD τ) ℕ cfg0 c where
  A w := V mI c (Pipeline.arrRef spec0 w)
  after w t := match w with
    | ⟨0, _⟩ => iblk mI c 0 t
    | ⟨1, _⟩ => iblk mI c 1 t
    | ⟨2, _⟩ => iblk mI c 2 t
    | ⟨3, h⟩ => distBlk (F := Ideal) (lhsT (tab mI c)) (iblk mI c 2 t)
    | ⟨4, h⟩ => tab mI c
  Φ k := iprop((∃ d, ⌜k.val ≠ 0 → d = lhsT (tab mI c)⌝ ∗ owns (c : Thread nD τ) scM0_0 fullShare d) ∗ (∃ r, prngReg c r))
  q _ := fullShare
  owed _ := 0

theorem A_eq (c : Dev nD) (w : Fin cfg0.W) : (dats mI 0 c).A w = V mI c (Pipeline.arrRef spec0 w) := by
  dsimp only [dats]

theorem after0_0 (c : Dev nD) (t : Fin cfg0.N) : (dats mI 0 c).after 0 t = iblk mI c 0 t := by dsimp only [dats]
theorem after0_1 (c : Dev nD) (t : Fin cfg0.N) : (dats mI 0 c).after 1 t = iblk mI c 1 t := by dsimp only [dats]
theorem after0_2 (c : Dev nD) (t : Fin cfg0.N) : (dats mI 0 c).after 2 t = iblk mI c 2 t := by dsimp only [dats]
theorem after0_3 (c : Dev nD) (t : Fin cfg0.N) : (dats mI 0 c).after 3 t = distBlk (F := Ideal) (lhsT (tab mI c)) (iblk mI c 2 t) := by dsimp only [dats]
theorem after0_4 (c : Dev nD) (t : Fin cfg0.N) : (dats mI 0 c).after 4 t = tab mI c := by dsimp only [dats]

theorem before0_0 (c : Dev nD) (t : Fin cfg0.N) (d) : (dats mI 0 c).before 0 t d = iblk mI c 0 t :=
  before0_0_of mI (dats mI 0 c) (A_eq mI c 0) (after0_0 mI c) t d
theorem before0_1 (c : Dev nD) (t : Fin cfg0.N) (d) : (dats mI 0 c).before 1 t d = iblk mI c 1 t :=
  before0_1_of mI (dats mI 0 c) (A_eq mI c 1) (after0_1 mI c) t d
theorem before0_2 (c : Dev nD) (t : Fin cfg0.N) (d) : (dats mI 0 c).before 2 t d = iblk mI c 2 t :=
  before0_2_of mI (dats mI 0 c) (A_eq mI c 2) (after0_2 mI c) t d

/-! ## The table's buffer: filled at the first point, untouched after it, written back after the last -/

theorem idle4 (t : Fin cfg0.N) : cfg0.idle 4 (grid0.coords t) = !(k0_cond1 (grid0.coords t) == 1#1) := rfl

theorem idle4_first (t : Fin cfg0.N) (h : t.val % 256 = 0) : cfg0.idle 4 (grid0.coords t) = false := by
  rw [idle4, (hcond0_0 t).mpr h]; rfl

theorem idle4_later (t : Fin cfg0.N) (h : ¬t.val % 256 = 0) : cfg0.idle 4 (grid0.coords t) = true := by
  have hc : ¬ k0_cond1 (grid0.coords t) = 1#1 := fun h' => h ((hcond0_0 t).mp h')
  rw [idle4, Bool.not_eq_true', beq_eq_false_iff_ne]; exact hc

/-- The table's buffer is not fresh at any later point. -/
theorem fresh4 : ∀ n : ℕ, n + 1 < 256 → cfg0.fresh 4 (n + 1) = false
  | n, h => by
    have hN : cfg0.N = 256 := N_0
    have hn : n < cfg0.N := by omega
    have hf : (cfg0.win 4).flush ⟨n, hn⟩ = false := by
      rw [Bool.eq_false_iff]; intro hf
      have := (flush0_4 ⟨n, hn⟩).mp hf
      simp only at this; omega
    rw [cfg0.fresh_succ 4 n hn, hf, Bool.false_or]
    by_cases h0 : n = 0
    · subst h0; rw [idle4_first ⟨0, hn⟩ rfl, Bool.false_and]
    · obtain ⟨k, rfl⟩ : ∃ k, n = k + 1 := ⟨n - 1, by omega⟩
      rw [fresh4 k (by omega), Bool.and_false]

/-- At a later point the table's buffer holds the table. -/
theorem before0_4 (c : Dev nD) (t : Fin cfg0.N) (ht : ¬t.val % 256 = 0) (d) : (dats mI 0 c).before 4 t d = tab mI c := by
  have hN : t.val < 256 := lt_of_lt_of_eq t.isLt (show cfg0.N = 256 from N_0)
  have hfr : cfg0.fresh 4 t.val = false := by
    obtain ⟨k, hk⟩ : ∃ k, t.val = k + 1 := ⟨t.val - 1, by omega⟩
    rw [hk]; exact fresh4 k (by omega)
  rw [(dats mI 0 c).before_out_traj 4 rfl (fun _ _ => rfl) (fun t _ _ _ => by rw [after0_4, after0_4]) t.val t rfl d, hfr,
    if_neg Bool.false_ne_true, after0_4]

/-- So the table in its buffer is what the pipeline wants back of it, at every point. -/
theorem leaves4 (c : Dev nD) (t : Fin cfg0.N) : owns (c : Thread nD τ) (ms0_4 t) fullShare (tab mI c) ⊢ ((dats mI 0 c).leavesExact 4 t : sProp (MT nD τ sig Unit (Elt Ideal) ℕ (UR sig nD τ) ℕ)) := by
  by_cases h0 : t.val % 256 = 0
  · unfold Dat.leavesExact
    rw [idle4_first t h0, after0_4]
  · cases hf : (cfg0.win 4).flush t
    · rw [Dat.leavesExact_idle _ _ _ (idle4_later t h0) hf]
      iintro H
      iexists (tab mI c)
      rw [before0_4 mI c t h0]
      iexact H
    · unfold Dat.leavesExact
      rw [idle4_later t h0, hf, after0_4]

/-! ## The body obligation -/

local notation "𝕄I" => MT nD τ sig Unit (Elt Ideal) ℕ (UR sig nD τ) ℕ

/-- What the body is called with at point `t`, -/
def bodyPre (c : Dev nD) (t : Fin cfg0.N) : sProp 𝕄I :=
  iprop((dats mI 0 c).Φ t.castSucc ∗ (dats mI 0 c).owesAt () t.castSucc
    ∗ (∃ d, owns (c : Thread nD τ) (ms0_0 t) fullShare ((dats mI 0 c).before 0 t d))
    ∗ (∃ d, owns (c : Thread nD τ) (ms0_1 t) fullShare ((dats mI 0 c).before 1 t d))
    ∗ (∃ d, owns (c : Thread nD τ) (ms0_2 t) fullShare ((dats mI 0 c).before 2 t d))
    ∗ (∃ d, owns (c : Thread nD τ) (ms0_3 t) fullShare ((dats mI 0 c).before 3 t d))
    ∗ (∃ d, owns (c : Thread nD τ) (ms0_4 t) fullShare ((dats mI 0 c).before 4 t d)))

/-- and what it returns. -/
def bodyPost (c : Dev nD) (t : Fin cfg0.N) : sProp 𝕄I :=
  iprop((dats mI 0 c).Φ t.succ ∗ (dats mI 0 c).owesAt () t.succ
    ∗ (dats mI 0 c).leavesExact 0 t
    ∗ (dats mI 0 c).leavesExact 1 t
    ∗ (dats mI 0 c).leavesExact 2 t
    ∗ (dats mI 0 c).leavesExact 3 t
    ∗ (dats mI 0 c).leavesExact 4 t)

theorem Phi_at (c : Dev nD) (k : Fin (cfg0.N + 1)) : (dats mI 0 c).Φ k =
    iprop((∃ d, ⌜k.val ≠ 0 → d = lhsT (tab mI c)⌝ ∗ owns (c : Thread nD τ) scM0_0 fullShare d) ∗ (∃ r, prngReg c r)) := by
  dsimp only [dats]

set_option maxHeartbeats 1600000 in
/-- The body at any point: at the first it builds the tables from the blocks, at a later one it finds them. -/
theorem sound_body (c : Dev nD) (t : Fin cfg0.N) :
    bodyPre mI c t ⊢ wp frame (wpE (defs₀ (F := Ideal)) Variants.none c none) Set.univ (bodyAt0 t) (fun _ => bodyPost mI c t) := by
  unfold bodyPre bodyPost bodyAt0
  simp only [before0_0, before0_1, before0_2]
  rw [show (dats mI 0 c).owesAt () t.succ = (dats mI 0 c).owesAt () t.castSucc from rfl, Phi_at, Phi_at]
  have hN : t.val < 256 := lt_of_lt_of_eq t.isLt (show cfg0.N = 256 from N_0)
  rw [show (dats mI 0 c).leavesExact 0 t = owns (c : Thread nD τ) (ms0_0 t) fullShare ((dats mI 0 c).after 0 t) from by
      unfold Dat.leavesExact; rw [liveAt0_0 t], after0_0]
  rw [show (dats mI 0 c).leavesExact 1 t = owns (c : Thread nD τ) (ms0_1 t) fullShare ((dats mI 0 c).after 1 t) from by
      unfold Dat.leavesExact; rw [liveAt0_1 t], after0_1]
  rw [show (dats mI 0 c).leavesExact 2 t = owns (c : Thread nD τ) (ms0_2 t) fullShare ((dats mI 0 c).after 2 t) from by
      unfold Dat.leavesExact; rw [liveAt0_2 t], after0_2]
  rw [show (dats mI 0 c).leavesExact 3 t = owns (c : Thread nD τ) (ms0_3 t) fullShare ((dats mI 0 c).after 3 t) from rfl, after0_3]
  by_cases h0 : t.val % 256 = 0
  · iintro ⟨⟨⟨%ds, -, HS0⟩, Hg⟩, Ho, ⟨%d0, H0⟩, ⟨%d1, H1⟩, ⟨%d2, H2⟩, ⟨%d3, H3⟩, ⟨%d4, H4⟩⟩
    iapply ((runA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk mI c 0 t) (iblk mI c 1 t) (iblk mI c 2 t)).2 Set.univ _)
    isplitl [H0]; · iexact H0
    isplitl [H1]; · iexact H1
    isplitl [H2]; · iexact H2
    isplitl [H3]; · iexists _; iexact H3
    isplitl [H4]; · iexists _; iexact H4
    isplitl [HS0]; · iexists _; iexact HS0
    iintro ⟨H0, H1, H2, ⟨%f3, H3⟩, H4, HS0⟩
    isplitl [HS0 Hg]
    · isplitl [HS0]
      · iexists (lhsT (tab mI c))
        isplitr; · ipureintro; exact fun _ => rfl
        unfold owns
        iexists _; isplitr; rotate_left
        · iexact HS0
        ipureintro
        exact (split_read (ms0_0 t) (hs0_0 t) (ms0_1 t) (hs0_1 t) (ms0_4 t) scM0_0 c (iblk mI c 0 t) (iblk mI c 1 t) _).trans (by rw [iblk0, iblk1]; rfl)
      iexact Hg
    isplitl [Ho]; · iexact Ho
    isplitl [H0]; · iexact H0
    isplitl [H1]; · iexact H1
    isplitl [H2]; · iexact H2
    isplitl [H3]
    · unfold owns
      iexists _; isplitr; rotate_left
      · iexact H3
      ipureintro
      exact (loop_read c (grid0.coords t) (ms0_0 t) (hs0_0 t) (ms0_1 t) (hs0_1 t) (ms0_2 t) (hs0_2 t) (ms0_3 t) (hs0_3 t) (ms0_4 t) (hs0_4 t) scM0_0 (Memref.isWhole_whole _) _ (iblk mI c 2 t) f3).trans
        (congrArg (fun v => distBlk (F := Ideal) v (iblk mI c 2 t))
          ((split_load (ms0_0 t) (hs0_0 t) (ms0_1 t) (hs0_1 t) (ms0_4 t) scM0_0 c (iblk mI c 0 t) (iblk mI c 1 t)).trans (by rw [iblk0, iblk1]; rfl)))
    iapply (leaves4 mI c t)
    unfold owns
    iexists _; isplitr; rotate_left
    · iexact H4
    ipureintro
    exact (table_read (ms0_0 t) (hs0_0 t) (ms0_1 t) (hs0_1 t) (ms0_4 t) scM0_0 c (iblk mI c 0 t) (iblk mI c 1 t) _).trans (by rw [iblk0, iblk1]; rfl)
  · simp only [before0_4 mI c t h0]
    iintro ⟨⟨⟨%ds, %hds, HS0⟩, Hg⟩, Ho, ⟨%d0, H0⟩, ⟨%d1, H1⟩, ⟨%d2, H2⟩, ⟨%d3, H3⟩, ⟨%d4, H4⟩⟩
    obtain rfl := hds (by show t.val ≠ 0; omega)
    iapply ((runB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk mI c 0 t) (iblk mI c 1 t) (iblk mI c 2 t) (tab mI c) (lhsT (tab mI c))).2 Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%f3, H3⟩, H4, HS0⟩
    isplitl [HS0 Hg]
    · isplitl [HS0]
      · iexists (lhsT (tab mI c))
        isplitr; · ipureintro; exact fun _ => rfl
        iexact HS0
      iexact Hg
    isplitl [Ho]; · iexact Ho
    isplitl [H0]; · iexact H0
    isplitl [H1]; · iexact H1
    isplitl [H2]; · iexact H2
    isplitl [H3]
    · unfold owns
      iexists _; isplitr; rotate_left
      · iexact H3
      ipureintro
      rw [runB_fst]
      exact loop_read c (grid0.coords t) (ms0_0 t) (hs0_0 t) (ms0_1 t) (hs0_1 t) (ms0_2 t) (hs0_2 t) (ms0_3 t) (hs0_3 t) (ms0_4 t) (hs0_4 t) scM0_0 (Memref.isWhole_whole _) _ (iblk mI c 2 t) f3
    iapply (leaves4 mI c t)
    iexact H4

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats mI 0 c) (defs₀ (F := Ideal)) Variants.none () Set.univ := fun t => by
  rw [bigSep_W0, bigSep_W0, defs₀_row]
  exact triple_restated (sound_body mI c t) rfl .rfl fun _ => .rfl

end Cert.KernelIdeal.Hand

end
-- ==== Proof.Launch.lean ====
/- The kernel's run over the extended reals: it ends, its arguments unchanged, its arrays as the proof data says. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)
/-! ## The run -/

variable (mI : (ℓ : Loc nD τ sig) → Buf (Elt Ideal) ℓ)

theorem hin (c : Dev nD) : Pipeline.ΦA spec0 c ⊢ (dats mI 0 c).Φ 0 := by
  rw [Phi_at, PhiA0_eq]
  iintro ⟨⟨%d, H⟩, Hg⟩
  isplitl [H]
  · iexists d
    isplitr; · ipureintro; exact fun h => absurd rfl h
    iexact H
  iexact Hg

theorem hout (c : Dev nD) : (dats mI 0 c).Φ (Fin.last cfg0.N) ⊢ Pipeline.ΦA spec0 c := by
  rw [Phi_at, PhiA0_eq]
  iintro ⟨⟨%d, -, H⟩, Hg⟩
  isplitl [H]
  · iexists d
    iexact H
  iexact Hg

set_option backward.isDefEq.respectTransparency.types false in
set_option maxHeartbeats 800000 in
/-- The launch: every execution ends, the arrays as the proof data says, every counter at zero. -/
theorem run_main_quiescent : θ_run defs (onTc (τ := τ) (main (F := Ideal))) (s₀ mI ρ)
    (fun r => Pipeline.FramePost cfgs (dats mI) 0 (Pipeline.afterTail₀ cfgs (dats mI) 0 (V0 mI) [hostOps1]) r ∧ r.2.sem = fun _ => 0) :=
  Pipeline.θ_run_frame_around_track (Q' := _) cfgs (dats mI) (0 : Fin 1) launch0 defs₀ Variants.none mI ρ main
    (hbody := fun c => (body_obligation mI c).loose) (hshare := fun c => (dats mI 0 c).share_full fun _ => rfl)
    (howed := fun _ _ => rfl) (V₀ := V0 mI) (opss := [hostOps1]) (hsub := sfx_sub) (hfresh := sfx_fresh) (hkeep := sfx_keeps)
    (hmain := hmain mI Variants.none) (hA := A_eq mI) (hin := hin mI) (hout := hout mI)

theorem run_main : θ_run defs (onTc (τ := τ) (main (F := Ideal))) (s₀ mI ρ)
    (Pipeline.FramePost cfgs (dats mI) 0 (Pipeline.afterTail₀ cfgs (dats mI) 0 (V0 mI) [hostOps1])) :=
  (θ_run defs _ _).mono (fun _ h => h.1) (run_main_quiescent ρ mI)

/-- The argument arrays end as launched. -/
theorem unchanged : θ_run defs (onTc (τ := τ) (main (F := Ideal))) ⟨mI, fun _ => 0, ρ⟩ (fun r => ∀ c : Dev nD,
      r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)) :=
  frame_of mI ρ (dats mI) (A_eq mI) (run_main ρ mI)

/-- The frame claim of the kernel over the extended reals. -/
theorem frame_ideal : θ_run defs (onTc (τ := τ) (main (F := Ideal))) ⟨mI, fun _ => 0, ρ⟩ (fun r => (∀ c : Dev nD,
      r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2))
      ∧ r.2.sem = fun _ => 0) :=
  θ_run_and (unchanged ρ mI) ((θ_run defs _ _).mono (fun _ h => h.2) (run_main_quiescent ρ mI))

end Cert.KernelIdeal.Hand

end
-- ==== Proof.Final.lean ====
/- What the result arrays hold after the run, over the extended reals. -/
module

public import proofs.«01_k».proof.Proof.Launch
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The result arrays after the run -/

variable (mI : (ℓ : Loc nD τ sig) → Buf (Elt Ideal) ℓ)

/-- The code bytes, four rows of columns, as the region finds them. -/
def X2 (c : Dev nD) : Vec Ideal S4x4194304 .i8 := V mI c main_v3

/-- The code bytes of the 512 columns that column `n` is in. -/
def codesAt (X : Vec Ideal S4x4194304 .i8) (n : Fin 4194304) : Vec Ideal S4x512 .i8 := fun z =>
  X (ix2 (z 0) ⟨512 * (n.val / 512) + (z 1).val, by have : (z 1).val < 512 := (z 1).isLt; omega⟩)

/-- The distances over the split table and the code bytes. -/
def distArr (v3 : Vec Ideal S128x256 .bf16) (X : Vec Ideal S4x4194304 .i8) : FVec Ideal S64x4194304 .bf16 := fun i =>
  chunkVal v3 (codesAt X (i 1)) (ix2 (i 0) ⟨(i 1).val % 512, by omega⟩)

/-- The codes of a block's columns, read in the whole array. -/
theorem chunkOf_block (c : Dev nD) (t : Fin cfg0.N) (k : Fin 32) (n : Fin 4194304) (hn : n.val / 512 = 32 * t.val + k.val) :
    chunkOf (iblk mI c 2 t) k = codesAt (X2 mI c) n := by
  funext z
  unfold chunkOf codesAt X2
  blk_ext [iblk, idx t]

/-- A block's element and the array's element it is written to. -/
theorem dist_glue_ix (v3 : Vec Ideal S128x256 .bf16) (x2 : Vec Ideal S4x16384 .i8) (X : Vec Ideal S4x4194304 .i8) (b : Fin 64) (q : Fin 16384)
    (n : Fin 4194304) (hx : chunkOf x2 ⟨q.val / 512, by omega⟩ = codesAt X n) (hn : n.val % 512 = q.val % 512) :
    distBlk (F := Ideal) v3 x2 (ix2 b q) = distArr v3 X (ix2 b n) := by
  have e : (⟨q.val % 512, by omega⟩ : Fin 512) = ⟨n.val % 512, by omega⟩ := Fin.ext hn.symm
  show chunkVal v3 (chunkOf x2 ⟨q.val / 512, _⟩) (ix2 b ⟨q.val % 512, _⟩) = chunkVal v3 (codesAt X n) (ix2 b ⟨n.val % 512, _⟩)
  rw [hx, e]

theorem dist_glue (c : Dev nD) (t : Fin cfg0.N) (y : S64x16384.Idx) (i : S64x4194304.Idx) (h0 : (i 0).val = (y 0).val)
    (h1 : (i 1).val = t.val * 16384 + (y 1).val) :
    distBlk (F := Ideal) (lhsT (tab mI c)) (iblk mI c 2 t) y = distArr (lhsT (tab mI c)) (X2 mI c) i := by
  obtain ⟨b, q, rfl⟩ : ∃ b q, y = ix2 b q := ⟨y 0, y 1, ValueIdx.eq_ix2 y⟩
  obtain ⟨b', n, rfl⟩ : ∃ b n, i = ix2 b n := ⟨i 0, i 1, ValueIdx.eq_ix2 i⟩
  have hb : b' = b := Fin.ext h0
  have hn : n.val = t.val * 16384 + q.val := h1
  subst hb
  exact dist_glue_ix _ _ _ _ q n (chunkOf_block mI c t _ n (by show n.val / 512 = 32 * t.val + q.val / 512; omega)) (by omega)

/-- The distances after the run. -/
theorem final_dist (c : Dev nD) : (dats mI 0 c).arrAt 3 cfg0.N = distArr (lhsT (tab mI c)) (X2 mI c) := by
  refine (dats mI 0 c).arrAt_eq_of_covers 3 _ (by decide +kernel) fun t hf y => ?_
  blk_simp
  rw [after0_3]
  have h0 : (((win0_3.blk t).view.emb y) 0 : ℕ) = (y 0).val := by blk_simp [idx t]
  have h1 : (((win0_3.blk t).view.emb y) 1 : ℕ) = t.val * 16384 + (y 1).val := by blk_simp [idx t]
  exact dist_glue mI c t y ((win0_3.blk t).view.emb y) h0 h1

/-- The table after the run. -/
theorem final_tab (c : Dev nD) : (dats mI 0 c).arrAt 4 cfg0.N = tab mI c := by
  refine (dats mI 0 c).arrAt_eq_of_covers 4 _ (by decide +kernel) fun t hf y => ?_
  blk_simp
  rw [after0_4]
  blk_ext [idx t]

end Cert.KernelIdeal.Hand

end
-- ==== Proof.Words.lean ====
/- The 4-bit codes the kernel reads out of four packed bytes. -/
module

public import proofs.«01_k».proof.Proof.Chunk
public import Idealize.ShloMosaic.Lib.BitcastFour
public import Idealize.ShloMosaic.Lib.BitcastPair
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The four code bytes of a column as words, and the eight 4-bit codes in them -/

/-- The number of a 4-bit code: code `k` of byte `p` of column `l`, the low half first. -/
def nib (w : Vec F S4x512 .i8) (p : Fin 4) (k : Fin 2) (l : Fin 512) : ℕ :=
  if k.val = 0 then (w (ix2 p l) : BitVec 8).toNat % 16 else (w (ix2 p l) : BitVec 8).toNat / 16

theorem nib_lt (w : Vec F S4x512 .i8) (p : Fin 4) (k : Fin 2) (l : Fin 512) : nib w p k l < 16 := by
  unfold nib
  have : (w (ix2 p l) : BitVec 8).toNat < 256 := (w (ix2 p l) : BitVec 8).isLt
  split <;> omega

/-- Every row of the broadcast word is the four bytes of the column, the first lowest. -/
theorem word_bit (w : Vec F S4x512 .i8) (j : S8x512.Idx) (q : ℕ) (hq : q < 32) :
    (k0_pay58 w j).getLsbD q = (w (ix2 ⟨q / 8, by omega⟩ (j 1)) : BitVec 8).getLsbD (q % 8) := by
  have e : k0_pay58 w j = bitcast S1x512 32 (w : IVec S4x512 8) bitcasts_S4x512_w8_S1x512_w32 (ix2 0 (j 1)) := by
    unfold k0_pay58
    pointwise []
  rw [e]
  exact bitcast_8_32_getLsbD_ix2 (w : IVec S4x512 8) bitcasts_S4x512_w8_S1x512_w32 0 (j 1) q hq ⟨q / 8, by omega⟩ (by simp)

/-- The low half of a word, doubled into both halves: each half has the word's low bits. -/
theorem lo_dup (x : BitVec 32) (h q : ℕ) (hh : h < 2) (hq : q < 16) :
    (IntOp.ori (IntOp.andi x 65535#32) (IntOp.shli .vector (IntOp.andi x 65535#32) 16#32)).getLsbD (16 * h + q) = x.getLsbD q := by
  have hm : ∀ i, (65535#32 : BitVec 32).getLsbD i = decide (i < 16) := fun i => by
    by_cases hi : i < 32
    · interval_cases i <;> rfl
    · rw [BitVec.getLsbD_of_ge _ _ (by omega)]; simp; omega
  have hs : ∀ y : BitVec 32, IntOp.shli .vector y 16#32 = y <<< 16 := fun y => rfl
  rw [hs]
  simp only [IntOp.ori, IntOp.andi, BitVec.getLsbD_or, BitVec.getLsbD_and, BitVec.getLsbD_shiftLeft, hm]
  rcases (by omega : h = 0 ∨ h = 1) with rfl | rfl
  · simp [hq]
  · have e : 16 * 1 + q - 16 = q := by omega
    rw [e]
    simp [hq]
    omega

/-- The high half of a word, doubled into both halves: each half has the word's high bits. -/
theorem hi_dup (x : BitVec 32) (h q : ℕ) (hh : h < 2) (hq : q < 16) :
    (IntOp.ori (IntOp.shrui .vector x 16#32) (IntOp.shli .vector (IntOp.shrui .vector x 16#32) 16#32)).getLsbD (16 * h + q)
      = x.getLsbD (16 + q) := by
  have hs : ∀ y : BitVec 32, IntOp.shli .vector y 16#32 = y <<< 16 := fun y => rfl
  have hr : ∀ y : BitVec 32, IntOp.shrui .vector y 16#32 = y >>> 16 := fun y => rfl
  rw [hs, hr]
  simp only [IntOp.ori, BitVec.getLsbD_or, BitVec.getLsbD_shiftLeft, BitVec.getLsbD_ushiftRight]
  rcases (by omega : h = 0 ∨ h = 1) with rfl | rfl
  · simp [hq]
  · have e : 16 * 1 + q - 16 = q := by omega
    have e' : x.getLsbD (16 + (16 * 1 + q)) = false := BitVec.getLsbD_of_ge _ _ (by omega)
    rw [e, e']
    simp [hq]
    omega

/-- Every row of the first halves is bytes 0 and 1 of the column, the first lowest. -/
theorem lo_bit (w : Vec F S4x512 .i8) (r : Fin 16) (l : Fin 512) (q : ℕ) (hq : q < 16) :
    (k0_pay59 w (ix2 r l)).getLsbD q = (w (ix2 ⟨q / 8, by omega⟩ l) : BitVec 8).getLsbD (q % 8) := by
  unfold k0_pay59
  rw [bitcast_32_16, BitVec.getLsbD_extractLsb']
  generalize hj : Shape.Bitcasts.srcIdx _ _ _ _ = j
  have hl : j 1 = l := by rw [← hj]; exact Fin.ext (Shape.Bitcasts.srcIdx_other _ _ _ _ 1 (by decide))
  have hr : S16x512.row (ix2 r l) = r.val := rfl
  rw [hr]
  pointwise []
  rw [lo_dup _ _ _ (by omega) hq, word_bit w j q (by omega), hl]
  simp [hq]

/-- Every row of the second halves is bytes 2 and 3 of the column. -/
theorem hi_bit (w : Vec F S4x512 .i8) (r : Fin 16) (l : Fin 512) (q : ℕ) (hq : q < 16) :
    (k0_pay60 w (ix2 r l)).getLsbD q = (w (ix2 ⟨2 + q / 8, by omega⟩ l) : BitVec 8).getLsbD (q % 8) := by
  unfold k0_pay60
  rw [bitcast_32_16, BitVec.getLsbD_extractLsb']
  generalize hj : Shape.Bitcasts.srcIdx _ _ _ _ = j
  have hl : j 1 = l := by rw [← hj]; exact Fin.ext (Shape.Bitcasts.srcIdx_other _ _ _ _ 1 (by decide))
  have hr : S16x512.row (ix2 r l) = r.val := rfl
  rw [hr]
  pointwise []
  rw [hi_dup _ _ _ (by omega) hq, word_bit w j (16 + q) (by omega), hl]
  have e : (⟨(16 + q) / 8, by omega⟩ : Fin 4) = ⟨2 + q / 8, by omega⟩ := Fin.ext (by show (16 + q) / 8 = 2 + q / 8; omega)
  rw [e, show (16 + q) % 8 = q % 8 by omega]
  simp [hq]

/-- A number as two bytes, of which the first is the lower. -/
theorem toNat_two_bytes (h : BitVec 16) (a b : BitVec 8) (ha : ∀ q, q < 8 → h.getLsbD q = a.getLsbD q)
    (hb : ∀ q, q < 8 → h.getLsbD (8 + q) = b.getLsbD q) : h.toNat = b.toNat * 256 + a.toNat := by
  have e : h = b ++ a := by
    apply BitVec.eq_of_getLsbD_eq
    intro i hi
    rw [BitVec.getLsbD_append]
    by_cases h8 : i < 8
    · rw [if_pos h8]; exact ha i h8
    · rw [if_neg h8]
      have := hb (i - 8) (by omega)
      rwa [show 8 + (i - 8) = i by omega] at this
  rw [e, BitVec.toNat_append, ← Nat.shiftLeft_add_eq_or_of_lt a.isLt, Nat.shiftLeft_eq]

/-- A number masked to four of its bits. -/
theorem and_mask (x k : ℕ) : x &&& (15 * 2 ^ k) = x / 2 ^ k % 16 * 2 ^ k := by
  have e : x / 2 ^ k % 16 = (x >>> k) &&& 15 := by
    rw [Nat.shiftRight_eq_div_pow]; exact (Nat.and_two_pow_sub_one_eq_mod (x / 2 ^ k) 4).symm
  rw [e, ← Nat.shiftLeft_eq, ← Nat.shiftLeft_eq]
  apply Nat.eq_of_testBit_eq
  intro i
  simp only [Nat.testBit_and, Nat.testBit_shiftLeft, Nat.testBit_shiftRight]
  by_cases h : k ≤ i
  · simp [h, Nat.add_sub_cancel' h]
  · simp [h]

/-- Four bits of a word compared with a row number moved to where they stand. -/
theorem masked_eq (h : BitVec 16) (r k : ℕ) (hr : r < 16) (hk : k ≤ 12) :
    (h &&& BitVec.ofNat 16 (15 * 2 ^ k) = BitVec.ofNat 16 r <<< k) ↔ h.toNat / 2 ^ k % 16 = r := by
  have hp : 2 ^ k ≤ 4096 := Nat.pow_le_pow_right (by decide) hk |>.trans (by decide)
  rw [← BitVec.toNat_inj, BitVec.toNat_and, BitVec.toNat_shiftLeft, BitVec.toNat_ofNat, BitVec.toNat_ofNat,
    Nat.mod_eq_of_lt (show 15 * 2 ^ k < 2 ^ 16 by omega), Nat.mod_eq_of_lt (show r < 2 ^ 16 by omega), and_mask, Nat.shiftLeft_eq,
    Nat.mod_eq_of_lt (show r * 2 ^ k < 2 ^ 16 by nlinarith)]
  exact Nat.mul_left_inj (by positivity)

/-- The first halves as numbers. -/
theorem lo_toNat (w : Vec F S4x512 .i8) (r : Fin 16) (l : Fin 512) :
    (k0_pay59 w (ix2 r l)).toNat = (w (ix2 1 l) : BitVec 8).toNat * 256 + (w (ix2 0 l) : BitVec 8).toNat := by
  refine toNat_two_bytes _ _ _ (fun q hq => ?_) fun q hq => ?_
  · rw [lo_bit w r l q (by omega), show q % 8 = q by omega]
    have e : (⟨q / 8, by omega⟩ : Fin 4) = 0 := Fin.ext (by show q / 8 = 0; omega)
    rw [e]
  · rw [lo_bit w r l (8 + q) (by omega), show (8 + q) % 8 = q by omega]
    have e : (⟨(8 + q) / 8, by omega⟩ : Fin 4) = 1 := Fin.ext (by show (8 + q) / 8 = 1; omega)
    rw [e]

/-- The second halves as numbers. -/
theorem hi_toNat (w : Vec F S4x512 .i8) (r : Fin 16) (l : Fin 512) :
    (k0_pay60 w (ix2 r l)).toNat = (w (ix2 3 l) : BitVec 8).toNat * 256 + (w (ix2 2 l) : BitVec 8).toNat := by
  refine toNat_two_bytes _ _ _ (fun q hq => ?_) fun q hq => ?_
  · rw [hi_bit w r l q (by omega), show q % 8 = q by omega]
    have e : (⟨2 + q / 8, by omega⟩ : Fin 4) = 2 := Fin.ext (by show 2 + q / 8 = 2; omega)
    rw [e]
  · rw [hi_bit w r l (8 + q) (by omega), show (8 + q) % 8 = q by omega]
    have e : (⟨2 + (8 + q) / 8, by omega⟩ : Fin 4) = 3 := Fin.ext (by show 2 + (8 + q) / 8 = 3; omega)
    rw [e]

/-- One entry of a one-hot matrix: one where the four bits of the half are the row's number. -/
theorem select_hot {α : Type} (h mask amt : BitVec 16) (r k : ℕ) (hr : r < 16) (hk : k ≤ 12) (hm : mask = BitVec.ofNat 16 (15 * 2 ^ k))
    (ha : amt = BitVec.ofNat 16 k) (x y : α) :
    Scalar.select (IntOp.cmpi .eq (IntOp.andi h mask) (IntOp.shli .vector (BitVec.ofNat 16 r) amt)) x y
      = if h.toNat / 2 ^ k % 16 = r then x else y := by
  have hs : IntOp.shli .vector (BitVec.ofNat 16 r) amt = BitVec.ofNat 16 r <<< k := by
    have hn : amt.toNat = k := by rw [ha, BitVec.toNat_ofNat]; omega
    unfold IntOp.shli
    rw [if_pos (by omega), BitVec.shiftLeft_eq', hn]
  rw [hs, hm]
  have key := masked_eq h r k hr hk
  unfold Scalar.select IntOp.cmpi IntOp.andi
  by_cases hh : h.toNat / 2 ^ k % 16 = r
  · rw [if_pos hh, key.2 hh]; simp
  · rw [if_neg hh]
    have hne : ¬(h &&& BitVec.ofNat 16 (15 * 2 ^ k) = BitVec.ofNat 16 r <<< k) := fun e => hh (key.1 e)
    show (if BitVec.ofBool (h &&& BitVec.ofNat 16 (15 * 2 ^ k) == BitVec.ofNat 16 r <<< k) = 1 then x else y) = y
    rw [beq_eq_false_iff_ne.2 hne]
    rfl

end Cert.KernelIdeal.Hand

end
-- ==== Proof.OneHot.lean ====
/- The eight one-hot matrices of a trip and what their product with the split table is, over the extended reals. -/
module

public import proofs.«01_k».proof.Proof.Words
public import proofs.«01_k».proof.Proof.Split
public import Idealize.ShloMosaic.Lib.Pointwise
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The one-hot matrices -/

/-- The eight one-hot matrices of a trip, one for each 4-bit code. -/
def hots (w : Vec Ideal S4x512 .i8) : Fin 8 → FVec Ideal S16x512 .bf16 :=
  ![k0_pay61 rows16 w, k0_pay62 rows16 w,
    k0_pay64 (k0_pay63 rows16 w) (Scalar.ofBits .bf16 0x3F80#16) (Scalar.ofBits .bf16 0x0000#16),
    k0_pay65 rows16 (k0_pay59 w), k0_pay66 rows16 (k0_pay60 w), k0_pay67 rows16 (k0_pay60 w), k0_pay68 rows16 (k0_pay60 w),
    select (k0_pay69 rows16 (k0_pay60 w)) (broadcast S16x512 (Scalar.ofBits .bf16 0x3F80#16)) (broadcast S16x512 (Scalar.ofBits .bf16 0x0000#16))]

/-- The 4-bit code number `m` of column `l`: codes `2 j` and `2 j + 1` are the low and the high half of byte `j`. -/
def code (w : Vec F S4x512 .i8) (m : Fin 8) (l : Fin 512) : ℕ := nib w ⟨m.val / 2, by omega⟩ ⟨m.val % 2, by omega⟩ l

theorem code_lt (w : Vec F S4x512 .i8) (m : Fin 8) (l : Fin 512) : code w m l < 16 := nib_lt ..

theorem code_even (w : Vec F S4x512 .i8) (p : Fin 4) (m : Fin 8) (hm : m.val = 2 * p.val) (l : Fin 512) :
    code w m l = (w (ix2 p l) : BitVec 8).toNat % 16 := by
  unfold code nib
  rw [if_pos (by show m.val % 2 = 0; omega)]
  have e : (⟨m.val / 2, by omega⟩ : Fin 4) = p := Fin.ext (by show m.val / 2 = p.val; omega)
  rw [e]

theorem code_odd (w : Vec F S4x512 .i8) (p : Fin 4) (m : Fin 8) (hm : m.val = 2 * p.val + 1) (l : Fin 512) :
    code w m l = (w (ix2 p l) : BitVec 8).toNat / 16 := by
  unfold code nib
  rw [if_neg (by show ¬m.val % 2 = 0; omega)]
  have e : (⟨m.val / 2, by omega⟩ : Fin 4) = p := Fin.ext (by show m.val / 2 = p.val; omega)
  rw [e]

/-- An entry of one-hot matrix `m`: one in the row of the column's code, zero elsewhere. -/
theorem hots_apply (w : Vec Ideal S4x512 .i8) (m : Fin 8) (r : Fin 16) (l : Fin 512) :
    hots w m (ix2 r l) = if code w m l = r.val then (1 : EReal) else 0 := by
  have hr := r.isLt
  have b0 : (w (ix2 0 l) : BitVec 8).toNat < 256 := (w (ix2 0 l) : BitVec 8).isLt
  have b1 : (w (ix2 1 l) : BitVec 8).toNat < 256 := (w (ix2 1 l) : BitVec 8).isLt
  have b2 : (w (ix2 2 l) : BitVec 8).toNat < 256 := (w (ix2 2 l) : BitVec 8).isLt
  have b3 : (w (ix2 3 l) : BitVec 8).toNat < 256 := (w (ix2 3 l) : BitVec 8).isLt
  fin_cases m
  · show k0_pay61 rows16 w (ix2 r l) = _
    unfold k0_pay61
    pointwise []
    rw [select_hot _ 15#16 0#16 r.val 0 hr (by decide) rfl rfl, lo_toNat]
    exact if_congr (by rw [code_even w 0 _ rfl]; omega) rfl rfl
  · show k0_pay62 rows16 w (ix2 r l) = _
    unfold k0_pay62
    pointwise []
    rw [select_hot _ 240#16 4#16 r.val 4 hr (by decide) rfl rfl, lo_toNat]
    exact if_congr (by rw [code_odd w 0 _ rfl]; omega) rfl rfl
  · show k0_pay64 (k0_pay63 rows16 w) _ _ (ix2 r l) = _
    unfold k0_pay64 k0_pay63
    pointwise []
    rw [select_hot _ 3840#16 8#16 r.val 8 hr (by decide) rfl rfl, lo_toNat]
    exact if_congr (by rw [code_even w 1 _ rfl]; omega) rfl rfl
  · show k0_pay65 rows16 (k0_pay59 w) (ix2 r l) = _
    unfold k0_pay65
    pointwise []
    rw [select_hot _ 61440#16 12#16 r.val 12 hr (by decide) rfl rfl, lo_toNat]
    exact if_congr (by rw [code_odd w 1 _ rfl]; omega) rfl rfl
  · show k0_pay66 rows16 (k0_pay60 w) (ix2 r l) = _
    unfold k0_pay66
    pointwise []
    rw [select_hot _ 15#16 0#16 r.val 0 hr (by decide) rfl rfl, hi_toNat]
    exact if_congr (by rw [code_even w 2 _ rfl]; omega) rfl rfl
  · show k0_pay67 rows16 (k0_pay60 w) (ix2 r l) = _
    unfold k0_pay67
    pointwise []
    rw [select_hot _ 240#16 4#16 r.val 4 hr (by decide) rfl rfl, hi_toNat]
    exact if_congr (by rw [code_odd w 2 _ rfl]; omega) rfl rfl
  · show k0_pay68 rows16 (k0_pay60 w) (ix2 r l) = _
    unfold k0_pay68
    pointwise []
    rw [select_hot _ 3840#16 8#16 r.val 8 hr (by decide) rfl rfl, hi_toNat]
    exact if_congr (by rw [code_even w 3 _ rfl]; omega) rfl rfl
  · show select (k0_pay69 rows16 (k0_pay60 w)) _ _ (ix2 r l) = _
    unfold k0_pay69
    pointwise []
    rw [select_hot _ 61440#16 12#16 r.val 12 hr (by decide) rfl rfl, hi_toNat]
    exact if_congr (by rw [code_odd w 3 _ rfl]; omega) rfl rfl

/-- The right operand of a trip's product: the eight one-hot matrices, twice. -/
def rhsT (w : Vec Ideal S4x512 .i8) : FVec Ideal S256x512 .bf16 :=
  concatenate S256x512 0 (List.ofFn fun n : Fin 16 => (⟨S16x512, hots w ⟨n.val % 8, by omega⟩⟩ : (s : Shape) × (s.Idx → EReal)))
    concatenates_S16x512_S16x512_S16x512_S16x512_S16x512_S16x512_S16x512_S16x512_S16x512_S16x512_S16x512_S16x512_S16x512_S16x512_S16x512_S16x512_S256x512_d0

theorem rhsT_apply (w : Vec Ideal S4x512 .i8) (k : Fin 256) (l : Fin 512) :
    rhsT w (ix2 k l) = if code w ⟨k.val / 16 % 8, by omega⟩ l = k.val % 16 then (1 : EReal) else 0 := by
  unfold rhsT
  exact (concatenate_ofFn_apply (s₁ := S16x512) (0 : Fin S256x512.rank) (fun n : Fin 16 => hots w ⟨n.val % 8, by omega⟩)
    concatenates_S16x512_S16x512_S16x512_S16x512_S16x512_S16x512_S16x512_S16x512_S16x512_S16x512_S16x512_S16x512_S16x512_S16x512_S16x512_S16x512_S256x512_d0
    rfl 16 rfl (ix2 k l) ⟨k.val / 16, by omega⟩ rfl (ix2 ⟨k.val % 16, by omega⟩ l) rfl (fun b hb => by
      match b with
      | ⟨0, _⟩ => exact absurd rfl hb
      | ⟨1, _⟩ => rfl)).trans (hots_apply w _ _ l)

/-- What a trip stores, read at a row and a column: the two products of the split table's halves, added. -/
theorem chunkVal_apply (v3 : Vec Ideal S128x256 .bf16) (w : Vec Ideal S4x512 .i8) (b : Fin 64) (l : Fin 512) :
    chunkVal v3 w (ix2 b l) = (∑ k : Fin 256, v3 (ix2 ⟨b.val, by omega⟩ k) * rhsT w (ix2 k l))
      + ∑ k : Fin 256, v3 (ix2 ⟨64 + b.val, by omega⟩ k) * rhsT w (ix2 k l) := by
  have e : chunkVal v3 w = truncf .bf16 (addf
      (extractStridedSlice S64x512 ![0, 0] (matmul dot_S128x256_S256x512_S128x512_1_0_0_1_n_n none v3 (rhsT w) (constant S128x512 .f32 0x00000000#32)) slices_S128x512_o0_0_S64x512)
      (extractStridedSlice S64x512 ![64, 0] (matmul dot_S128x256_S256x512_S128x512_1_0_0_1_n_n none v3 (rhsT w) (constant S128x512 .f32 0x00000000#32)) slices_S128x512_o64_0_S64x512)) bitsLt_bf16_f32 := rfl
  rw [e]
  generalize rhsT w = R
  pointwise []

end Cert.KernelIdeal.Hand

end
-- ==== Proof.Sum.lean ====
/- What a trip stores is the sum of eight table entries, when the table is finite. -/
module

public import proofs.«01_k».proof.Proof.OneHot

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## A trip's product picks eight entries of the table -/

/-- A sum over 128 rows as a sum over eight groups of sixteen. -/
theorem sum_groups (f : Fin 128 → EReal) : ∑ k, f k = ∑ m : Fin 8, ∑ r : Fin 16, f ⟨16 * m.val + r.val, by omega⟩ := by
  rw [← Fintype.sum_prod_type' (f := fun (m : Fin 8) (r : Fin 16) => f ⟨16 * m.val + r.val, by omega⟩)]
  refine (Fintype.sum_equiv (finProdFinEquiv (m := 8) (n := 16)) _ _ fun x => ?_).symm
  exact congrArg f (Fin.ext (Nat.add_comm _ _))

/-- A one-hot sum picks its entry. -/
theorem sum_pick (f : Fin 16 → EReal) (n : ℕ) (hn : n < 16) : (∑ r : Fin 16, f r * (if n = r.val then (1 : EReal) else 0)) = f ⟨n, hn⟩ := by
  rw [Finset.sum_eq_single_of_mem (⟨n, hn⟩ : Fin 16) (Finset.mem_univ _) (fun r _ hr => by
    rw [if_neg (fun e => hr (Fin.ext e.symm)), mul_zero])]
  rw [if_pos rfl, mul_one]

variable (T : FVec Ideal S128x64 .f32)

/-- The upper rows of the split table times a one-hot matrix: the picked entries, the remainders being zero. -/
theorem sum_upper (hT : ∀ i, (T i : EReal) - T i = 0) (w : Vec Ideal S4x512 .i8) (b : Fin 64) (l : Fin 512) :
    (∑ k : Fin 256, (lhsT T (ix2 ⟨b.val, by omega⟩ k) : EReal) * rhsT w (ix2 k l))
      = ∑ m : Fin 8, (T (ix2 ⟨16 * m.val + code w m l, by have := code_lt w m l; omega⟩ b) : EReal) := by
  have hs : ∀ f : Fin 256 → EReal, ∑ k, f k = (∑ k : Fin 128, f ⟨k.val, by omega⟩) + ∑ k : Fin 128, f ⟨128 + k.val, by omega⟩ :=
    fun f => Fin.sum_univ_add (a := 128) (b := 128) f
  rw [hs]
  have h2 : (∑ k : Fin 128, (lhsT T (ix2 ⟨b.val, by omega⟩ ⟨128 + k.val, by omega⟩) : EReal) * rhsT w (ix2 ⟨128 + k.val, by omega⟩ l)) = 0 := by
    refine Finset.sum_eq_zero fun k _ => ?_
    have hk : lhsT T (ix2 ⟨b.val, by omega⟩ ⟨128 + k.val, by omega⟩) = (0 : EReal) := by
      unfold lhsT
      rw [dif_pos (by show b.val < 64; exact b.isLt), dif_neg (by show ¬128 + k.val < 128; omega)]
      exact hT _
    rw [hk, zero_mul]
  rw [h2, add_zero, sum_groups]
  refine Finset.sum_congr rfl fun m _ => ?_
  refine Eq.trans (Finset.sum_congr rfl fun r _ => ?_) (sum_pick (fun r => T (ix2 ⟨16 * m.val + r.val, by omega⟩ b)) (code w m l) (code_lt w m l))
  have hl : lhsT T (ix2 ⟨b.val, by omega⟩ ⟨16 * m.val + r.val, by omega⟩) = T (ix2 ⟨16 * m.val + r.val, by omega⟩ b) := by
    unfold lhsT
    rw [dif_pos (by show b.val < 64; exact b.isLt), dif_pos (by show 16 * m.val + r.val < 128; omega)]
    rfl
  have hr : rhsT w (ix2 ⟨16 * m.val + r.val, by omega⟩ l) = if code w m l = r.val then (1 : EReal) else 0 := by
    rw [rhsT_apply]
    have e1 : (⟨(16 * m.val + r.val) / 16 % 8, by omega⟩ : Fin 8) = m := Fin.ext (by show (16 * m.val + r.val) / 16 % 8 = m.val; omega)
    have e2 : (16 * m.val + r.val) % 16 = r.val := by omega
    exact if_congr (by show code w ⟨(16 * m.val + r.val) / 16 % 8, _⟩ l = (16 * m.val + r.val) % 16 ↔ _; rw [e1, e2]) rfl rfl
  show (lhsT T (ix2 ⟨b.val, _⟩ ⟨16 * m.val + r.val, _⟩) : EReal) * rhsT w (ix2 ⟨16 * m.val + r.val, _⟩ l) = _
  rw [hl, hr]

/-- The lower rows of the split table are zero. -/
theorem sum_lower (hT : ∀ i, (T i : EReal) - T i = 0) (w : Vec Ideal S4x512 .i8) (b : Fin 64) (l : Fin 512) :
    (∑ k : Fin 256, (lhsT T (ix2 ⟨64 + b.val, by omega⟩ k) : EReal) * rhsT w (ix2 k l)) = 0 := by
  refine Finset.sum_eq_zero fun k _ => ?_
  have hk : lhsT T (ix2 ⟨64 + b.val, by omega⟩ k) = (0 : EReal) := by
    unfold lhsT
    rw [dif_neg (by show ¬64 + b.val < 64; omega)]
    by_cases h : k.val < 128
    · rw [dif_pos (by show k.val < 128; exact h)]
      show (T _ - T _ - (T _ - T _) : EReal) = 0
      rw [hT, sub_zero]
    · rw [dif_neg (by show ¬k.val < 128; exact h)]
  rw [hk, zero_mul]

/-- What a trip stores at a row and a column: the eight table entries the column's codes name, summed. -/
theorem chunk_sum (hT : ∀ i, (T i : EReal) - T i = 0) (w : Vec Ideal S4x512 .i8) (b : Fin 64) (l : Fin 512) :
    chunkVal (lhsT T) w (ix2 b l) = ∑ m : Fin 8, (T (ix2 ⟨16 * m.val + code w m l, by have := code_lt w m l; omega⟩ b) : EReal) := by
  rw [chunkVal_apply, sum_upper T hT, sum_lower T hT, add_zero]

end Cert.KernelIdeal.Hand

end
-- ==== Proof.Host.lean ====
/- The operations of the program before and after the kernel, read at an index, and what the whole run leaves in the two results. -/
module

public import proofs.«01_k».proof.Proof.Final
public import proofs.«01_k».proof.Proof.Sum
public import Idealize.ShloMosaic.Lib.Pointwise
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

variable (mI : (ℓ : Loc nD τ sig) → Buf (Elt Ideal) ℓ)

/-- The queries the kernel is given are the program's, widened and transposed. -/
theorem X0_apply (c : Dev nD) (k : Fin 96) (b : Fin 64) :
    (X0 mI c (ix2 k b) : EReal) = mI ((c.tc : Thread nD τ).loc main_arg0) (ix2 b k) := by
  have h : X0 mI c = transpose S96x64 [1, 0] (extf (F := Ideal) .f32 (mI ((c.tc : Thread nD τ).loc main_arg0)) bitsLt_bf16_f32) transposes_S64x96_S96x64_1_0 := by
    show StableHlo.after (List.flatten [hostOps0]) (fun b => mI (c, b)) (Proc.devRef .tc main_v1) = _
    unfold hostOps0
    after_results_simp
    try rfl
  rw [h]
  pointwise []

/-- The codebook the kernel is given is the program's, its first two axes joined. -/
theorem X1_apply (c : Dev nD) (k : Fin 128) (d : Fin 12) :
    (X1 mI c (ix2 k d) : EReal) = mI ((c.tc : Thread nD τ).loc main_arg1) (ix3 ⟨k.val / 16, by omega⟩ ⟨k.val % 16, by omega⟩ d) := by
  have h : X1 mI c = shapeCast S128x12 (mI ((c.tc : Thread nD τ).loc main_arg1)) shapeCasts_S8x16x12_S128x12 := by
    show StableHlo.after (List.flatten [hostOps0]) (fun b => mI (c, b)) (Proc.devRef .tc main_v2) = _
    unfold hostOps0
    after_results_simp
    try rfl
  rw [h]
  exact shapeCast_apply (s := S8x16x12) _ _ _ _ (by
    rw [Shape.rowMajor_val_three, Shape.rowMajor_val_two]
    show (k.val / 16 * 16 + k.val % 16) * 12 + d.val = k.val * 12 + d.val
    rw [Nat.div_add_mod'])

/-- The codes the kernel is given are the program's, transposed. -/
theorem X2_apply (c : Dev nD) (k : Fin 4) (n : Fin 4194304) :
    X2 mI c (ix2 k n) = mI ((c.tc : Thread nD τ).loc main_arg2) (ix2 n k) := by
  have h : X2 mI c = transpose S4x4194304 [1, 0] (mI ((c.tc : Thread nD τ).loc main_arg2)) transposes_S4194304x4_S4x4194304_1_0 := by
    show StableHlo.after (List.flatten [hostOps0]) (fun b => mI (c, b)) (Proc.devRef .tc main_v3) = _
    unfold hostOps0
    after_results_simp
    try rfl
  rw [h]
  pointwise []

/-- The second result at the end of the run: the table, split and transposed. -/
theorem W_main_v6 (c : Dev nD) :
    Pipeline.afterTail₀ cfgs (dats mI) 0 (V0 mI) [hostOps1] c main_v6
      = transpose S64x8x16 [2, 0, 1] (shapeCast S8x16x64 (tab mI c) shapeCasts_S128x64_S8x16x64) transposes_S8x16x64_S64x8x16_2_0_1 := by
  have ha : (Pipeline.withArrays (cfgs 0).spec c (V0 mI c) fun w => (dats mI 0 c).arrAt w (cfgs 0).N) (Proc.devRef .tc main_v4_1) = tab mI c :=
    (Pipeline.withArrays_arr (cfgs 0).spec (by decide) c (V0 mI c) (fun w => (dats mI 0 c).arrAt w (cfgs 0).N) 4).trans (final_tab mI c)
  unfold Pipeline.afterTail₀
  generalize (Pipeline.withArrays (cfgs 0).spec c (V0 mI c) fun w => (dats mI 0 c).arrAt w (cfgs 0).N) = W at ha ⊢
  rw [← ha]
  show StableHlo.after (List.flatten [hostOps1]) W (Proc.devRef .tc main_v6) = _
  unfold hostOps1
  after_results_simp
  try rfl

/-- The kernel's run: the two results, and the arguments unchanged. -/
theorem run_values (ρ : Dev nD → PrngReg) : θ_run defs (onTc (τ := τ) (main (F := Ideal))) ⟨mI, fun _ => 0, ρ⟩ (fun r => ∀ c : Dev nD,
      r.2.mem ((c.tc : Thread nD τ).loc main_v4_0) = distArr (lhsT (tab mI c)) (X2 mI c)
      ∧ r.2.mem ((c.tc : Thread nD τ).loc main_v6) = transpose S64x8x16 [2, 0, 1] (shapeCast S8x16x64 (tab mI c) shapeCasts_S128x64_S8x16x64) transposes_S8x16x64_S64x8x16_2_0_1
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)) := by
  refine (θ_run defs _ _).mono (fun r h c => ?_) (run_main ρ mI)
  exact ⟨((h c).1 3).trans (final_dist mI c),
    ((h c).2 main_v6 (Pipeline.mem_restRefs_of main_v6 (by decide) (by decide))).trans (W_main_v6 mI c),
    ((h c).2 main_arg0 (Pipeline.mem_restRefs_of main_arg0 (by decide) (by decide))).trans (W_main_arg0 mI (dats mI) c),
    ((h c).2 main_arg1 (Pipeline.mem_restRefs_of main_arg1 (by decide) (by decide))).trans (W_main_arg1 mI (dats mI) c),
    ((h c).2 main_arg2 (Pipeline.mem_restRefs_of main_arg2 (by decide) (by decide))).trans (W_main_arg2 mI (dats mI) c)⟩

end Cert.KernelIdeal.Hand

end
-- ==== Proof.Gather.lean ====
/- The lookup of the reference, read at an index. -/
module

public import proofs.«01_k».proof.Proof.Gen.ReferenceIdeal
public import proofs.«01_k».proof.Proof.Gen.ReferenceIdeal.Run
public import Idealize.ShloMosaic.Lib.ValueIdx
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Idealize.SL.Sem
open Cert.ReferenceIdeal.Gen

/-- A lookup read at `(b, n, j)`: the two start indices of row `(n, j)`, where they are in range, name the entry of
    the table of query `b`. -/
theorem gather_apply {α : Type} (x : S64x4x16.Idx → α) (idx : IVec S4194304x4x2 32) (b : Fin 64) (n : Fin 4194304) (j : Fin 4)
    (p : Fin 4) (s : Fin 16) (hp : (idx (ix3 n j 0)).toInt.toNat = p.val) (hs : (idx (ix3 n j 1)).toInt.toNat = s.val) :
    Host.gather gather_S64x4x16_S4194304x4x2_S64x4194304x4_0_12_n_n_12_2_6411 x idx (ix3 b n j) = x (ix3 b p s) := by
  have hb0 : ∀ a, (GatherDims.batchCoord gather_S64x4x16_S4194304x4x2_S64x4194304x4_0_12_n_n_12_2_6411 (ix3 b n j) a) = 0 := fun a => GatherDims.batchCoord_eq_zero _ _ _ List.not_mem_nil
  unfold Host.gather
  refine congrArg x (funext fun a => Fin.ext ?_)
  show (GatherDims.start gather_S64x4x16_S4194304x4x2_S64x4194304x4_0_12_n_n_12_2_6411 (ix3 b n j) idx a) + (GatherDims.batchCoord gather_S64x4x16_S4194304x4x2_S64x4194304x4_0_12_n_n_12_2_6411 (ix3 b n j) a) + (GatherDims.offCoord gather_S64x4x16_S4194304x4x2_S64x4194304x4_0_12_n_n_12_2_6411 (ix3 b n j) a) = _
  rw [hb0]
  have hsi : ∀ (k : Fin 2) (h : k.val < (GatherDims.startIndexMap gather_S64x4x16_S4194304x4x2_S64x4194304x4_0_12_n_n_12_2_6411).length), GatherDims.siIdx gather_S64x4x16_S4194304x4x2_S64x4194304x4_0_12_n_n_12_2_6411 (ix3 b n j) ⟨k.val, h⟩ = ix3 n j k := by
    intro k h
    funext a; refine Fin.ext ?_
    match a with
    | ⟨0, _⟩ => rfl
    | ⟨1, _⟩ => rfl
    | ⟨2, _⟩ => rfl
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (by decide)]
    unfold GatherDims.offCoord
    rw [dif_pos (by decide)]
    show 0 + 0 + b.val = b.val
    omega
  · rw [GatherDims.offCoord_eq_zero _ _ _ (fun h => ((GatherDims.mem_sKept _ _).mp h).1 (by decide))]
    unfold GatherDims.start
    rw [dif_pos (by decide)]
    show min (idx (GatherDims.siIdx gather_S64x4x16_S4194304x4x2_S64x4194304x4_0_12_n_n_12_2_6411 (ix3 b n j) ⟨(0 : Fin 2).val, _⟩)).toInt.toNat 3 + 0 + 0 = p.val
    rw [hsi 0 (by decide), hp]
    omega
  · rw [GatherDims.offCoord_eq_zero _ _ _ (fun h => ((GatherDims.mem_sKept _ _).mp h).1 (by decide))]
    unfold GatherDims.start
    rw [dif_pos (by decide)]
    show min (idx (GatherDims.siIdx gather_S64x4x16_S4194304x4x2_S64x4194304x4_0_12_n_n_12_2_6411 (ix3 b n j) ⟨(1 : Fin 2).val, _⟩)).toInt.toNat 15 + 0 + 0 = s.val
    rw [hsi 1 (by decide), hs]
    omega

end Cert.ReferenceIdeal.Hand

end
-- ==== Proof.Reference.lean ====
/- The results of the reference, read at an index. -/
module

public import proofs.«01_k».proof.Proof.Gather
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Idealize.SL.Sem
open Cert.ReferenceIdeal.Gen

/-- The reference's table of squared distances. -/
def lutR (x : FVec Ideal S64x96 .bf16) (cb : FVec Ideal S8x16x12 .f32) : FVec Ideal S64x8x16 .f32 :=
  Host.reduceAdd (mulf (subf (broadcastInDim S64x8x16x12 ![0, 1, 2, 3] bcast_S64x8x1x12_S64x8x16x12_0_1_2_3 (broadcastInDim S64x8x1x12 ![0, 1, 3] bcast_S64x8x12_S64x8x1x12_0_1_3 (shapeCast _ (extf .f32 x bitsLt_bf16_f32) shapeCasts_S64x96_S64x8x12))) (broadcastInDim S64x8x16x12 ![0, 1, 2, 3] bcast_S1x8x16x12_S64x8x16x12_0_1_2_3 (broadcastInDim S1x8x16x12 ![1, 2, 3] bcast_S8x16x12_S1x8x16x12_1_2_3 cb))) (subf (broadcastInDim S64x8x16x12 ![0, 1, 2, 3] bcast_S64x8x1x12_S64x8x16x12_0_1_2_3 (broadcastInDim S64x8x1x12 ![0, 1, 3] bcast_S64x8x12_S64x8x1x12_0_1_3 (shapeCast _ (extf .f32 x bitsLt_bf16_f32) shapeCasts_S64x96_S64x8x12))) (broadcastInDim S64x8x16x12 ![0, 1, 2, 3] bcast_S1x8x16x12_S64x8x16x12_0_1_2_3 (broadcastInDim S1x8x16x12 ![1, 2, 3] bcast_S8x16x12_S1x8x16x12_1_2_3 cb)))) (constant S_ .f32 0x00000000#32) reducesTo_S64x8x16x12_S64x8x16_d3 h_S_

/-- The queries, split by subspace. -/
theorem split_apply (x : FVec Ideal S64x96 .f32) (b : Fin 64) (q : Fin 8) (d : Fin 12) :
    shapeCast S64x8x12 x shapeCasts_S64x96_S64x8x12 (ix3 b q d) = x (ix2 b ⟨12 * q.val + d.val, by omega⟩) :=
  shapeCast_apply _ _ _ _ (by
    rw [Shape.rowMajor_val_three, Shape.rowMajor_val_two]
    show b.val * 96 + (12 * q.val + d.val) = (b.val * 8 + q.val) * 12 + d.val
    omega)

/-- The table at a query, a subspace and a centroid: the squared distance over the subspace's twelve coordinates. -/
theorem lutR_apply (x : FVec Ideal S64x96 .bf16) (cb : FVec Ideal S8x16x12 .f32) (b : Fin 64) (q : Fin 8) (s : Fin 16) :
    (lutR x cb (ix3 b q s) : EReal) = ∑ d : Fin 12, ((x (ix2 b ⟨12 * q.val + d.val, by omega⟩) : EReal) - cb (ix3 q s d)) * ((x (ix2 b ⟨12 * q.val + d.val, by omega⟩) : EReal) - cb (ix3 q s d)) := by
  unfold lutR
  have hx : ∀ d : Fin 12, (shapeCast S64x8x12 (extf (F := Ideal) .f32 x bitsLt_bf16_f32) shapeCasts_S64x96_S64x8x12 (ix3 b q d) : EReal) = x (ix2 b ⟨12 * q.val + d.val, by omega⟩) := fun d => split_apply _ b q d
  simp only [← hx]
  generalize shapeCast S64x8x12 (extf (F := Ideal) .f32 x bitsLt_bf16_f32) shapeCasts_S64x96_S64x8x12 = X
  pointwise []

/-- The reference's start indices: the place among the four bytes of a row, and the code. -/
def idxR (k : IVec S4194304x4 32) : IVec S4194304x4x2 32 :=
  concatenate S4194304x4x2 2 [⟨S4194304x4x1, (broadcastInDim S4194304x4x1 ![0, 1] bcast_S4194304x4_S4194304x4x1_0_1 (broadcastInDim S4194304x4 ![0, 1] bcast_S1x4_S4194304x4_0_1 (select (cmpi .slt (broadcastInDim S1x4 ![1] bcast_S4_S1x4_1 (iotaInDim S4 32 0)) (broadcastInDim S1x4 ![] bcast_S_S1x4 (constantI S_ 32 0#32))) (addi (broadcastInDim S1x4 ![1] bcast_S4_S1x4_1 (iotaInDim S4 32 0)) (broadcastInDim S1x4 ![] bcast_S_S1x4 (constantI S_ 32 4#32))) (broadcastInDim S1x4 ![1] bcast_S4_S1x4_1 (iotaInDim S4 32 0)))))⟩, ⟨S4194304x4x1, (broadcastInDim S4194304x4x1 ![0, 1] bcast_S4194304x4_S4194304x4x1_0_1 (select (cmpi .slt k (broadcastInDim S4194304x4 ![] bcast_S_S4194304x4 (constantI S_ 32 0#32))) (addi k (broadcastInDim S4194304x4 ![] bcast_S_S4194304x4 (constantI S_ 32 16#32))) k))⟩] concatenates_S4194304x4x1_S4194304x4x1_S4194304x4x2_d2

/-- The low nibbles of the codes. -/
def loR (a : IVec S4194304x4 8) : IVec S4194304x4 32 :=
  andi (extui 32 a natLt_8_32) (broadcastInDim S4194304x4 ![] bcast_S_S4194304x4 (constantI S_ 32 15#32))

/-- The high nibbles of the codes. -/
def hiR (a : IVec S4194304x4 8) : IVec S4194304x4 32 :=
  Host.shrsi (extui 32 a natLt_8_32) (broadcastInDim S4194304x4 ![] bcast_S_S4194304x4 (constantI S_ 32 4#32))

/-- The first start index is the place of the byte. -/
theorem idxR_place (k : IVec S4194304x4 32) (n : Fin 4194304) (j : Fin 4) : (idxR k (ix3 n j 0)).toInt.toNat = j.val := by
  unfold idxR
  pointwise []
  fin_cases j <;> rfl

/-- The second start index is the code, which is not negative. -/
theorem idxR_code (k : IVec S4194304x4 32) (n : Fin 4194304) (j : Fin 4) (h : (k (ix2 n j)).toNat < 16) :
    (idxR k (ix3 n j 1)).toInt.toNat = (k (ix2 n j)).toNat := by
  have e : idxR k (ix3 n j 1) = Scalar.select (IntOp.cmpi .slt (k (ix2 n j)) 0#32) (k (ix2 n j) + 16#32) (k (ix2 n j)) := by
    unfold idxR
    pointwise []
    rfl
  rw [e]
  generalize k (ix2 n j) = v at h ⊢
  have hv : v.toInt = v.toNat := BitVec.toInt_eq_toNat_of_lt (by omega)
  have hc : IntOp.cmpi .slt v 0#32 = 0#1 := by
    show BitVec.ofBool (v.slt 0#32) = 0#1
    rw [show v.slt 0#32 = false by
      rw [BitVec.slt, hv]
      exact decide_eq_false (by show ¬ (v.toNat : ℤ) < 0; omega)]
    rfl
  rw [hc]
  show v.toInt.toNat = v.toNat
  rw [hv, Int.toNat_natCast]

theorem loR_toNat (a : IVec S4194304x4 8) (n : Fin 4194304) (j : Fin 4) : (loR a (ix2 n j)).toNat = (a (ix2 n j)).toNat % 16 := by
  unfold loR
  pointwise []
  generalize a (ix2 n j) = v
  revert v
  decide

theorem hiR_toNat (a : IVec S4194304x4 8) (n : Fin 4194304) (j : Fin 4) : (hiR a (ix2 n j)).toNat = (a (ix2 n j)).toNat / 16 := by
  unfold hiR
  pointwise []
  generalize a (ix2 n j) = v
  revert v
  decide

/-- The reference's sum of looked-up entries, of a table and the two nibbles. -/
def distR (L : FVec Ideal S64x8x16 .f32) (a : IVec S4194304x4 8) : FVec Ideal S64x4194304 .bf16 :=
  truncf .bf16 (addf (Host.reduceAdd (Host.gather gather_S64x4x16_S4194304x4x2_S64x4194304x4_0_12_n_n_12_2_6411 (Host.slice S64x4x16 ![0, 0, 0] ![1, 2, 1] L slicesBy_S64x8x16_S64x4x16_0s1_0s2_0s1) (idxR (loR a))) (constant S_ .f32 0x00000000#32) reducesTo_S64x4194304x4_S64x4194304_d2 h_S_)
    (Host.reduceAdd (Host.gather gather_S64x4x16_S4194304x4x2_S64x4194304x4_0_12_n_n_12_2_6411 (Host.slice S64x4x16 ![0, 1, 0] ![1, 2, 1] L slicesBy_S64x8x16_S64x4x16_0s1_1s2_0s1) (idxR (hiR a))) (constant S_ .f32 0x00000000#32) reducesTo_S64x4194304x4_S64x4194304_d2 h_S_)) bitsLt_bf16_f32

/-- The first result of the reference. -/
theorem res_eq (m : (ℓ : Loc nD τ sig) → Buf (Elt Ideal) ℓ) (c : Dev nD) :
    Value.res_main_v51 m c = distR (lutR (m ((c.tc : Thread nD τ).loc main_arg0)) (m ((c.tc : Thread nD τ).loc main_arg1))) (m ((c.tc : Thread nD τ).loc main_arg2)) := rfl

/-- The even subspaces of the table. -/
theorem even_apply (L : FVec Ideal S64x8x16 .f32) (b : Fin 64) (j : Fin 4) (s : Fin 16) :
    Host.slice S64x4x16 ![0, 0, 0] ![1, 2, 1] L slicesBy_S64x8x16_S64x4x16_0s1_0s2_0s1 (ix3 b j s) = L (ix3 b ⟨2 * j.val, by omega⟩ s) := by
  pointwise []

/-- The odd subspaces of the table. -/
theorem odd_apply (L : FVec Ideal S64x8x16 .f32) (b : Fin 64) (j : Fin 4) (s : Fin 16) :
    Host.slice S64x4x16 ![0, 1, 0] ![1, 2, 1] L slicesBy_S64x8x16_S64x4x16_0s1_1s2_0s1 (ix3 b j s) = L (ix3 b ⟨2 * j.val + 1, by omega⟩ s) := by
  have e : (⟨2 * j.val + 1, by omega⟩ : Fin 8) = ⟨1 + 2 * j.val, by omega⟩ := Fin.ext (Nat.add_comm _ _)
  rw [e]
  pointwise []

/-- The four places of a row, added up from zero. -/
theorem reduce_apply (Y : FVec Ideal S64x4194304x4 .f32) (b : Fin 64) (n : Fin 4194304) :
    (Host.reduceAdd Y (constant S_ .f32 0x00000000#32) reducesTo_S64x4194304x4_S64x4194304_d2 h_S_ (ix2 b n) : EReal) = ∑ j : Fin 4, (Y (ix3 b n j) : EReal) := by
  pointwise []

/-- A lookup of a row's four codes in four subspaces of the table, summed. -/
theorem sum_gather (y : FVec Ideal S64x4x16 .f32) (k : IVec S4194304x4 32) (b : Fin 64) (n : Fin 4194304) (s : Fin 4 → Fin 16) (hk : ∀ j : Fin 4, (k (ix2 n j)).toNat = (s j).val) :
    (Host.reduceAdd (Host.gather gather_S64x4x16_S4194304x4x2_S64x4194304x4_0_12_n_n_12_2_6411 y (idxR k)) (constant S_ .f32 0x00000000#32) reducesTo_S64x4194304x4_S64x4194304_d2 h_S_ (ix2 b n) : EReal)
      = ∑ j : Fin 4, (y (ix3 b j (s j)) : EReal) :=
  (reduce_apply _ b n).trans (Finset.sum_congr rfl fun j _ =>
    gather_apply y (idxR k) b n j j (s j) (idxR_place k n j) ((idxR_code k n j (by rw [hk]; exact (s j).isLt)).trans (hk j)))

/-- A sum of two arrays at an index; the rounding of the result is the identity here. -/
theorem add_apply (A B : FVec Ideal S64x4194304 .f32) (i : S64x4194304.Idx) :
    (truncf (F := Ideal) .bf16 (addf A B) bitsLt_bf16_f32 i : EReal) = (A i : EReal) + B i := rfl

/-- The low nibble of a byte. -/
def loN (v : BitVec 8) : Fin 16 := ⟨v.toNat % 16, Nat.mod_lt _ (by decide)⟩

/-- The high nibble of a byte. -/
def hiN (v : BitVec 8) : Fin 16 := ⟨v.toNat / 16, by have := v.isLt; omega⟩

/-- The first result of the reference at a query and a row: the eight entries the row's nibbles name, added up. -/
theorem distR_apply (L : FVec Ideal S64x8x16 .f32) (a : IVec S4194304x4 8) (b : Fin 64) (n : Fin 4194304) :
    (distR L a (ix2 b n) : EReal) = (∑ j : Fin 4, (L (ix3 b ⟨2 * j.val, by omega⟩ (loN (a (ix2 n j)))) : EReal))
      + ∑ j : Fin 4, (L (ix3 b ⟨2 * j.val + 1, by omega⟩ (hiN (a (ix2 n j)))) : EReal) := by
  unfold distR
  rw [add_apply, sum_gather _ (loR a) b n (fun j => loN (a (ix2 n j))) (fun j => loR_toNat a n j),
    sum_gather _ (hiR a) b n (fun j => hiN (a (ix2 n j))) (fun j => hiR_toNat a n j)]
  simp only [even_apply, odd_apply]

end Cert.ReferenceIdeal.Hand

end
-- ==== Proof.Equation.lean ====
/- The precondition makes the table finite, and the two programs' results agree at every index. -/
module

public import proofs.«01_k».proof.Proof.Host
public import proofs.«01_k».proof.Proof.Reference
public import proofs.«01_k».proof.Pre_finite
public import proofs.«01_k».proof.Defs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## Finite inputs make a finite table -/

theorem facts_pre : Cert.Pre_finite.Facts := ⟨by decide, by decide, by decide⟩

/-- A value whose absolute value is below infinity is a real number. -/
theorem real_of_lt (x : Ideal .f32)
    (h : FloatOps.cmpf .olt (FloatOps.hostAbsf x) (FloatOps.ofBits (F := Ideal) .f32 0x7F800000#32) = 1#1) : ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine ⟨EReal.toReal x, (EReal.coe_toReal (ne_of_lt hlt.1) ?_).symm⟩
  intro hb
  rw [hb] at hlt
  simp at hlt

/-- The squared difference of two real numbers is a real number. -/
theorem sqd_real {a b : EReal} (ha : ∃ r : ℝ, a = (r : EReal)) (hb : ∃ r : ℝ, b = (r : EReal)) : ∃ r : ℝ, (a - b) * (a - b) = (r : EReal) := by
  obtain ⟨x, rfl⟩ := ha
  obtain ⟨y, rfl⟩ := hb
  exact ⟨(x - y) * (x - y), by rw [EReal.coe_mul, EReal.coe_sub]⟩

/-- A sum of real numbers is a real number. -/
theorem sum_real {n : ℕ} (f : Fin n → EReal) (h : ∀ d, ∃ r : ℝ, f d = (r : EReal)) : ∃ r : ℝ, ∑ d, f d = (r : EReal) := by
  induction n with
  | zero => exact ⟨0, by simp⟩
  | succ n ih =>
    obtain ⟨r, hr⟩ := ih (fun d => f d.castSucc) (fun d => h _)
    obtain ⟨s, hs⟩ := h (Fin.last n)
    exact ⟨r + s, by rw [Fin.sum_univ_castSucc, hr, hs, EReal.coe_add]⟩

variable (mI : (ℓ : Loc nD τ sig) → Buf (Elt Ideal) ℓ)

/-- The queries of the launch. -/
def xs (c : Dev nD) : FVec Ideal S64x96 .bf16 := mI ((c.tc : Thread nD τ).loc main_arg0)
/-- The codebook of the launch. -/
def cb (c : Dev nD) : FVec Ideal S8x16x12 .f32 := mI ((c.tc : Thread nD τ).loc main_arg1)
/-- The codes of the launch. -/
def cs (c : Dev nD) : IVec S4194304x4 8 := mI ((c.tc : Thread nD τ).loc main_arg2)

/-- Under the precondition the queries are real numbers. -/
theorem xs_real (h : @Cert.Pre_KernelIdeal_finite facts_pre mI) (c : Dev nD) (i : S64x96.Idx) : ∃ r : ℝ, (xs mI c i : EReal) = (r : EReal) :=
  real_of_lt _ (congrFun (h c).1 i)

/-- Under the precondition the codebook's entries are real numbers. -/
theorem cb_real (h : @Cert.Pre_KernelIdeal_finite facts_pre mI) (c : Dev nD) (i : S8x16x12.Idx) : ∃ r : ℝ, (cb mI c i : EReal) = (r : EReal) :=
  real_of_lt _ (congrFun (h c).2 i)

/-! ## The tables agree -/

/-- The kernel's table at row `16 q + s` of query `b` is the reference's at `(b, q, s)`. -/
theorem tab_lut (c : Dev nD) (b : Fin 64) (q : Fin 8) (s : Fin 16) :
    (tab mI c (ix2 ⟨16 * q.val + s.val, by omega⟩ b) : EReal) = Cert.ReferenceIdeal.Hand.lutR (xs mI c) (cb mI c) (ix3 b q s) := by
  refine Eq.trans ?_ (Cert.ReferenceIdeal.Hand.lutR_apply (xs mI c) (cb mI c) b q s).symm
  unfold tab lutT
  refine Finset.sum_congr rfl fun d _ => ?_
  have h0 : X0 mI c (ix2 ⟨12 * ((16 * q.val + s.val) / 16) + d.val, by omega⟩ b) = xs mI c (ix2 b ⟨12 * q.val + d.val, by omega⟩) := by
    refine (X0_apply mI c _ b).trans (congrArg (xs mI c) (ix2_ext rfl ?_))
    exact (by show 12 * ((16 * q.val + s.val) / 16) + d.val = 12 * q.val + d.val; omega)
  have h1 : X1 mI c (ix2 ⟨16 * q.val + s.val, by omega⟩ d) = cb mI c (ix3 q s d) := by
    refine (X1_apply mI c _ d).trans (congrArg (cb mI c) ?_)
    have e0 : (⟨(16 * q.val + s.val) / 16, by omega⟩ : Fin 8) = q := Fin.ext (by show (16 * q.val + s.val) / 16 = q.val; omega)
    have e1 : (⟨(16 * q.val + s.val) % 16, by omega⟩ : Fin 16) = s := Fin.ext (by show (16 * q.val + s.val) % 16 = s.val; omega)
    exact congrArg₂ (fun u v => ix3 u v d) e0 e1
  exact congrArg₂ sqd h0 h1

/-- Every row of the table is `16 q + s`. -/
theorem row_split (k : Fin 128) : ∃ (q : Fin 8) (s : Fin 16), k = ⟨16 * q.val + s.val, by omega⟩ :=
  ⟨⟨k.val / 16, by omega⟩, ⟨k.val % 16, by omega⟩, Fin.ext (by show k.val = 16 * (k.val / 16) + k.val % 16; omega)⟩

/-- Under the precondition the table is finite: an entry minus itself is zero. -/
theorem tab_finite (h : @Cert.Pre_KernelIdeal_finite facts_pre mI) (c : Dev nD) (i : S128x64.Idx) : (tab mI c i : EReal) - tab mI c i = 0 := by
  obtain ⟨k, b, rfl⟩ : ∃ (k : Fin 128) (b : Fin 64), i = ix2 k b := ⟨i 0, i 1, ValueIdx.eq_ix2 i⟩
  obtain ⟨q, s, rfl⟩ := row_split k
  have hr : ∃ r : ℝ, (tab mI c (ix2 ⟨16 * q.val + s.val, by omega⟩ b) : EReal) = (r : EReal) := by
    obtain ⟨r, hr⟩ := sum_real _ fun d => sqd_real (xs_real mI h c (ix2 b ⟨12 * q.val + d.val, by omega⟩)) (cb_real mI h c (ix3 q s d))
    exact ⟨r, (tab_lut mI c b q s).trans ((Cert.ReferenceIdeal.Hand.lutR_apply _ _ b q s).trans hr)⟩
  obtain ⟨r, hr⟩ := hr
  exact (congrArg₂ (fun u v : EReal => u - v) hr hr).trans (by rw [← EReal.coe_sub, sub_self, EReal.coe_zero])

/-- The kernel's second result is the reference's table. -/
theorem lut_eq (c : Dev nD) :
    transpose S64x8x16 [2, 0, 1] (shapeCast S8x16x64 (tab mI c) shapeCasts_S128x64_S8x16x64) transposes_S8x16x64_S64x8x16_2_0_1
      = Cert.ReferenceIdeal.Hand.lutR (xs mI c) (cb mI c) := by
  funext i
  obtain ⟨b, q, s, rfl⟩ : ∃ (b : Fin 64) (q : Fin 8) (s : Fin 16), i = ix3 b q s := ⟨i 0, i 1, i 2, funext fun a => by
    match a with
    | ⟨0, _⟩ => rfl
    | ⟨1, _⟩ => rfl
    | ⟨2, _⟩ => rfl⟩
  refine Eq.trans ?_ (tab_lut mI c b q s)
  have ht : ∀ A : FVec Ideal S8x16x64 .f32, transpose S64x8x16 [2, 0, 1] A transposes_S8x16x64_S64x8x16_2_0_1 (ix3 b q s) = A (ix3 q s b) := by
    intro A
    pointwise []
  refine (ht _).trans (shapeCast_apply (s := S128x64) _ _ _ _ ?_)
  rw [Shape.rowMajor_val_three, Shape.rowMajor_val_two]
  show (16 * q.val + s.val) * 64 + b.val = (q.val * 16 + s.val) * 64 + b.val
  omega

/-! ## The sums of looked-up entries agree -/

/-- A sum over eight subspaces, the even ones first. -/
theorem sum_even_odd (f : Fin 8 → EReal) :
    ∑ m, f m = (∑ j : Fin 4, f ⟨2 * j.val, by omega⟩) + ∑ j : Fin 4, f ⟨2 * j.val + 1, by omega⟩ := by
  rw [Fin.sum_univ_eight, Fin.sum_univ_four, Fin.sum_univ_four]
  show f 0 + f 1 + f 2 + f 3 + f 4 + f 5 + f 6 + f 7 = (f 0 + f 2 + f 4 + f 6) + (f 1 + f 3 + f 5 + f 7)
  abel

/-- The bytes of row `n` as the kernel's trip sees them. -/
theorem codes_apply (c : Dev nD) (n : Fin 4194304) (p : Fin 4) :
    codesAt (X2 mI c) n (ix2 p ⟨n.val % 512, Nat.mod_lt _ (by decide)⟩) = cs mI c (ix2 n p) := by
  unfold codesAt
  refine (X2_apply mI c p _).trans (congrArg (cs mI c) (ix2_ext ?_ rfl))
  show 512 * (n.val / 512) + n.val % 512 = n.val
  omega

/-- The kernel's first result is the reference's. -/
theorem dist_eq (h : @Cert.Pre_KernelIdeal_finite facts_pre mI) (c : Dev nD) :
    distArr (lhsT (tab mI c)) (X2 mI c) = Cert.ReferenceIdeal.Hand.distR (Cert.ReferenceIdeal.Hand.lutR (xs mI c) (cb mI c)) (cs mI c) := by
  funext i
  obtain ⟨b, n, rfl⟩ : ∃ (b : Fin 64) (n : Fin 4194304), i = ix2 b n := ⟨i 0, i 1, ValueIdx.eq_ix2 i⟩
  refine Eq.trans ?_ (Cert.ReferenceIdeal.Hand.distR_apply _ _ b n).symm
  refine (chunk_sum (tab mI c) (tab_finite mI h c) (codesAt (X2 mI c) n) b ⟨n.val % 512, Nat.mod_lt _ (by decide)⟩).trans ?_
  refine (sum_even_odd _).trans (congrArg₂ (fun u v : EReal => u + v) (Finset.sum_congr rfl fun j _ => ?_) (Finset.sum_congr rfl fun j _ => ?_))
  · refine Eq.trans ?_ (tab_lut mI c b ⟨2 * j.val, by omega⟩ (Cert.ReferenceIdeal.Hand.loN (cs mI c (ix2 n j))))
    refine congrArg (tab mI c) (ix2_ext ?_ rfl)
    refine congrArg (fun z => 16 * (2 * j.val) + z) ((code_even _ j ⟨2 * j.val, by omega⟩ rfl _).trans ?_)
    rw [codes_apply]
    rfl
  · refine Eq.trans ?_ (tab_lut mI c b ⟨2 * j.val + 1, by omega⟩ (Cert.ReferenceIdeal.Hand.hiN (cs mI c (ix2 n j))))
    refine congrArg (tab mI c) (ix2_ext ?_ rfl)
    refine congrArg (fun z => 16 * (2 * j.val + 1) + z) ((code_odd _ j ⟨2 * j.val + 1, by omega⟩ rfl _).trans ?_)
    rw [codes_apply]
    rfl

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem

/-- The reference's frame. -/
theorem frameR : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- From the same finite arguments the kernel and the reference leave the same sums and the same table. -/
theorem value : Cert.algebraic_KernelIdeal_ReferenceIdeal_pre_finite (hKernelIdeal := Cert.KernelIdeal.Gen.facts)
    (hReferenceIdeal := Cert.ReferenceIdeal.Gen.facts) (hPre_finite := Cert.KernelIdeal.Hand.facts_pre) := by
  intro m g m' g' hpre hargs
  refine ⟨fun c => Cert.ReferenceIdeal.Hand.distR (Cert.ReferenceIdeal.Hand.lutR (Cert.KernelIdeal.Hand.xs m c) (Cert.KernelIdeal.Hand.cb m c)) (Cert.KernelIdeal.Hand.cs m c),
    fun c => Cert.ReferenceIdeal.Hand.lutR (Cert.KernelIdeal.Hand.xs m c) (Cert.KernelIdeal.Hand.cb m c), ?_, ?_⟩
  · exact (θ_run Cert.KernelIdeal.defs _ _).mono (fun r h c => ⟨(h c).1.trans (Cert.KernelIdeal.Hand.dist_eq m hpre c),
      (h c).2.1.trans (Cert.KernelIdeal.Hand.lut_eq m c), (h c).2.2⟩) (Cert.KernelIdeal.Hand.run_values m g)
  · refine (θ_run Cert.ReferenceIdeal.defs _ _).mono (fun r h c => ⟨(h c).1.trans ?_, (h c).2.1.trans ?_, (h c).2.2⟩)
      (Cert.ReferenceIdeal.Value.run (F := Ideal) m' g')
    · refine (Cert.ReferenceIdeal.Hand.res_eq m' c).trans ?_
      rw [(hargs c).1, (hargs c).2.1, (hargs c).2.2]
      rfl
    · show Cert.ReferenceIdeal.Hand.lutR _ _ = _
      rw [(hargs c).1, (hargs c).2.1]
      rfl

theorem claim : Cert.Claim := ⟨Cert.Kernel.Gen.facts, Cert.KernelIdeal.Gen.facts, Cert.ReferenceIdeal.Gen.facts, Cert.KernelIdeal.Hand.facts_pre,
  fun m ρ _ => Cert.Kernel.Hand.frame m ρ, fun m ρ _ => Cert.KernelIdeal.Hand.frame_ideal ρ m, fun m ρ _ => Cert.KernelIdeal.Hand.frame_ideal ρ m,
  frameR, fun m ρ _ => frameR m ρ trivial, trivial, value⟩

end Cert.Proof

end
